-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 256, 512]⟩ ⟨3, ![16, 256, 512]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 512]⟩ ⟨2, ![512, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v16) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x16 : Shape := ⟨2, ![256, 16]⟩
abbrev S512x1 : Shape := ⟨2, ![512, 1]⟩
abbrev S2x256x512 : Shape := ⟨3, ![2, 256, 512]⟩
abbrev S64x512 : Shape := ⟨2, ![64, 512]⟩
abbrev S512x512 : Shape := ⟨2, ![512, 512]⟩
abbrev S512x2 : Shape := ⟨2, ![512, 2]⟩
abbrev S7x64x512 : Shape := ⟨3, ![7, 64, 512]⟩
abbrev S7 : Shape := ⟨1, ![7]⟩
abbrev S_ : Shape := ⟨0, ![]⟩
abbrev S1 : Shape := ⟨1, ![1]⟩
abbrev S1x256x512 : Shape := ⟨3, ![1, 256, 512]⟩
abbrev S256x512 : Shape := ⟨2, ![256, 512]⟩
abbrev S64x256 : Shape := ⟨2, ![64, 256]⟩
abbrev S64x2 : Shape := ⟨2, ![64, 2]⟩
abbrev S64x1 : Shape := ⟨2, ![64, 1]⟩
abbrev S1x64x512 : Shape := ⟨3, ![1, 64, 512]⟩

abbrev nBuf : Space → Nat
  | .hbm => 5
  | .vmem => 7
  | .smem => 0
  | _ => 0

abbrev bufTy : (tb : Table) → Fin (tcTables nBuf tb) → BufTy
  | .hbm, ⟨0, _⟩ => ⟨S512x256, .f32⟩
  | .hbm, ⟨1, _⟩ => ⟨S256x16, .f32⟩
  | .hbm, ⟨2, _⟩ => ⟨S512x1, .i32⟩
  | .hbm, ⟨3, _⟩ => ⟨S2x256x512, .f32⟩
  | .hbm, ⟨4, _⟩ => ⟨S64x512, .f32⟩
  | .local _ .vmem, ⟨0, _⟩ => ⟨S512x256, .f32⟩
  | .local _ .vmem, ⟨1, _⟩ => ⟨S512x1, .i32⟩
  | .local _ .vmem, ⟨2, _⟩ => ⟨S2x256x512, .f32⟩
  | .local _ .vmem, ⟨3, _⟩ => ⟨S64x512, .f32⟩
  | .local _ .vmem, ⟨4, _⟩ => ⟨S512x512, .bf16⟩
  | .local _ .vmem, ⟨5, _⟩ => ⟨S512x2, .bf16⟩
  | .local _ .vmem, ⟨6, _⟩ => ⟨S7x64x512, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 8 18 bufScoped semScoped dmaSemScoped tileCredit tileCredit_eq_zero tileCredit_pos).withBarriers [(0, 7)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 7

abbrev nD : Nat := 8
abbrev τ : Topo := Topo.v7x

variable {F : FTy → Type} [FloatOps F]

abbrev grid0 : Pipeline.Grid := .none

def k0_dev1 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.addi v2 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_8 : BitVec 32 := 1#32
  let v17 : BitVec 32 := Scalar.muli v14 c1_i32_8
  let v18 : BitVec 32 := Scalar.addi c0_i32_9 v17
  v18.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v19 : BitVec 32 := Scalar.addi v2 c2_i32
  let c8_i32_10 : BitVec 32 := 8#32
  let c0_i32_11 : BitVec 32 := 0#32
  let v20 : BitVec 1 := Scalar.cmpi .eq c8_i32_10 c0_i32_11
  let c1_i32_12 : BitVec 32 := 1#32
  let v21 : BitVec 32 := Scalar.select v20 c1_i32_12 c8_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c1_i32_17 : BitVec 32 := 1#32
  let v32 : BitVec 32 := Scalar.muli v29 c1_i32_17
  let v33 : BitVec 32 := Scalar.addi c0_i32_18 v32
  v33.toNat
def k0_dev3 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v34 : BitVec 32 := Scalar.addi v2 c3_i32
  let c8_i32_19 : BitVec 32 := 8#32
  let c0_i32_20 : BitVec 32 := 0#32
  let v35 : BitVec 1 := Scalar.cmpi .eq c8_i32_19 c0_i32_20
  let c1_i32_21 : BitVec 32 := 1#32
  let v36 : BitVec 32 := Scalar.select v35 c1_i32_21 c8_i32_19
  let v37 : BitVec 32 := Scalar.remsi v34 v36
  let c0_i32_23 : BitVec 32 := 0#32
  let v39 : BitVec 1 := Scalar.cmpi .slt v37 c0_i32_23
  let c0_i32_24 : BitVec 32 := 0#32
  let v40 : BitVec 1 := Scalar.cmpi .slt v36 c0_i32_24
  let v41 : BitVec 1 := Scalar.xori v39 v40
  let c0_i32_22 : BitVec 32 := 0#32
  let v38 : BitVec 1 := Scalar.cmpi .ne v37 c0_i32_22
  let v42 : BitVec 1 := Scalar.andi v41 v38
  let v43 : BitVec 32 := Scalar.addi v37 v36
  let v44 : BitVec 32 := Scalar.select v42 v43 v37
  let c1_i32_26 : BitVec 32 := 1#32
  let v47 : BitVec 32 := Scalar.muli v44 c1_i32_26
  let v48 : BitVec 32 := Scalar.addi c0_i32_27 v47
  v48.toNat
def k0_dev4 (d0 : Dev nD) : Nat :=
  let c0_i32_38 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_28 : BitVec 32 := 4#32
  let v49 : BitVec 32 := Scalar.addi v2 c4_i32_28
  let c8_i32_29 : BitVec 32 := 8#32
  let c0_i32_30 : BitVec 32 := 0#32
  let v50 : BitVec 1 := Scalar.cmpi .eq c8_i32_29 c0_i32_30
  let c1_i32_31 : BitVec 32 := 1#32
  let v51 : BitVec 32 := Scalar.select v50 c1_i32_31 c8_i32_29
  let v52 : BitVec 32 := Scalar.remsi v49 v51
  let c0_i32_33 : BitVec 32 := 0#32
  let v54 : BitVec 1 := Scalar.cmpi .slt v52 c0_i32_33
  let c0_i32_34 : BitVec 32 := 0#32
  let v55 : BitVec 1 := Scalar.cmpi .slt v51 c0_i32_34
  let v56 : BitVec 1 := Scalar.xori v54 v55
  let c0_i32_32 : BitVec 32 := 0#32
  let v53 : BitVec 1 := Scalar.cmpi .ne v52 c0_i32_32
  let v57 : BitVec 1 := Scalar.andi v56 v53
  let v58 : BitVec 32 := Scalar.addi v52 v51
  let v59 : BitVec 32 := Scalar.select v57 v58 v52
  let c1_i32_37 : BitVec 32 := 1#32
  let v62 : BitVec 32 := Scalar.muli v59 c1_i32_37
  let v63 : BitVec 32 := Scalar.addi c0_i32_38 v62
  v63.toNat
def k0_dev5 (d0 : Dev nD) : Nat :=
  let c0_i32_49 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_39 : BitVec 32 := 5#32
  let v64 : BitVec 32 := Scalar.addi v2 c5_i32_39
  let c8_i32_40 : BitVec 32 := 8#32
  let c0_i32_41 : BitVec 32 := 0#32
  let v65 : BitVec 1 := Scalar.cmpi .eq c8_i32_40 c0_i32_41
  let c1_i32_42 : BitVec 32 := 1#32
  let v66 : BitVec 32 := Scalar.select v65 c1_i32_42 c8_i32_40
  let v67 : BitVec 32 := Scalar.remsi v64 v66
  let c0_i32_44 : BitVec 32 := 0#32
  let v69 : BitVec 1 := Scalar.cmpi .slt v67 c0_i32_44
  let c0_i32_45 : BitVec 32 := 0#32
  let v70 : BitVec 1 := Scalar.cmpi .slt v66 c0_i32_45
  let v71 : BitVec 1 := Scalar.xori v69 v70
  let c0_i32_43 : BitVec 32 := 0#32
  let v68 : BitVec 1 := Scalar.cmpi .ne v67 c0_i32_43
  let v72 : BitVec 1 := Scalar.andi v71 v68
  let v73 : BitVec 32 := Scalar.addi v67 v66
  let v74 : BitVec 32 := Scalar.select v72 v73 v67
  let c1_i32_48 : BitVec 32 := 1#32
  let v77 : BitVec 32 := Scalar.muli v74 c1_i32_48
  let v78 : BitVec 32 := Scalar.addi c0_i32_49 v77
  v78.toNat
def k0_dev6 (d0 : Dev nD) : Nat :=
  let c0_i32_60 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_50 : BitVec 32 := 6#32
  let v79 : BitVec 32 := Scalar.addi v2 c6_i32_50
  let c8_i32_51 : BitVec 32 := 8#32
  let c0_i32_52 : BitVec 32 := 0#32
  let v80 : BitVec 1 := Scalar.cmpi .eq c8_i32_51 c0_i32_52
  let c1_i32_53 : BitVec 32 := 1#32
  let v81 : BitVec 32 := Scalar.select v80 c1_i32_53 c8_i32_51
  let v82 : BitVec 32 := Scalar.remsi v79 v81
  let c0_i32_55 : BitVec 32 := 0#32
  let v84 : BitVec 1 := Scalar.cmpi .slt v82 c0_i32_55
  let c0_i32_56 : BitVec 32 := 0#32
  let v85 : BitVec 1 := Scalar.cmpi .slt v81 c0_i32_56
  let v86 : BitVec 1 := Scalar.xori v84 v85
  let c0_i32_54 : BitVec 32 := 0#32
  let v83 : BitVec 1 := Scalar.cmpi .ne v82 c0_i32_54
  let v87 : BitVec 1 := Scalar.andi v86 v83
  let v88 : BitVec 32 := Scalar.addi v82 v81
  let v89 : BitVec 32 := Scalar.select v87 v88 v82
  let c1_i32_59 : BitVec 32 := 1#32
  let v92 : BitVec 32 := Scalar.muli v89 c1_i32_59
  let v93 : BitVec 32 := Scalar.addi c0_i32_60 v92
  v93.toNat
def k0_dev7 (d0 : Dev nD) : Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_61 : BitVec 32 := 7#32
  let v94 : BitVec 32 := Scalar.addi v2 c7_i32_61
  let c8_i32_62 : BitVec 32 := 8#32
  let c0_i32_63 : BitVec 32 := 0#32
  let v95 : BitVec 1 := Scalar.cmpi .eq c8_i32_62 c0_i32_63
  let c1_i32_64 : BitVec 32 := 1#32
  let v96 : BitVec 32 := Scalar.select v95 c1_i32_64 c8_i32_62
  let v97 : BitVec 32 := Scalar.remsi v94 v96
  let c0_i32_66 : BitVec 32 := 0#32
  let v99 : BitVec 1 := Scalar.cmpi .slt v97 c0_i32_66
  let c0_i32_67 : BitVec 32 := 0#32
  let v100 : BitVec 1 := Scalar.cmpi .slt v96 c0_i32_67
  let v101 : BitVec 1 := Scalar.xori v99 v100
  let c0_i32_65 : BitVec 32 := 0#32
  let v98 : BitVec 1 := Scalar.cmpi .ne v97 c0_i32_65
  let v102 : BitVec 1 := Scalar.andi v101 v98
  let v103 : BitVec 32 := Scalar.addi v97 v96
  let v104 : BitVec 32 := Scalar.select v102 v103 v97
  let c1_i32_70 : BitVec 32 := 1#32
  let v107 : BitVec 32 := Scalar.muli v104 c1_i32_70
  let v108 : BitVec 32 := Scalar.addi c0_i32_71 v107
  v108.toNat
def k0_off1 (d0 : Dev nD) (c1_i32_84 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v143 : BitVec 32 := Scalar.addi v2 c1_i32_84
  let c8_i32_85 : BitVec 32 := 8#32
  let c0_i32_86 : BitVec 32 := 0#32
  let v144 : BitVec 1 := Scalar.cmpi .eq c8_i32_85 c0_i32_86
  let c1_i32_87 : BitVec 32 := 1#32
  let v145 : BitVec 32 := Scalar.select v144 c1_i32_87 c8_i32_85
  let v146 : BitVec 32 := Scalar.remsi v143 v145
  let c0_i32_89 : BitVec 32 := 0#32
  let v148 : BitVec 1 := Scalar.cmpi .slt v146 c0_i32_89
  let c0_i32_90 : BitVec 32 := 0#32
  let v149 : BitVec 1 := Scalar.cmpi .slt v145 c0_i32_90
  let v150 : BitVec 1 := Scalar.xori v148 v149
  let c0_i32_88 : BitVec 32 := 0#32
  let v147 : BitVec 1 := Scalar.cmpi .ne v146 c0_i32_88
  let v151 : BitVec 1 := Scalar.andi v150 v147
  let v152 : BitVec 32 := Scalar.addi v146 v145
  let v153 : BitVec 32 := Scalar.select v151 v152 v146
  let c64_i32_91 : BitVec 32 := 64#32
  let v155 : BitVec 32 := Scalar.muli v153 c64_i32_91
  let v156 : Index := Scalar.indexCast v155
  let c0_92 : Index := 0#32
  ![v156.toNat, 0]
def k0_off2 (d0 : Dev nD) (c1_i32_84 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v143 : BitVec 32 := Scalar.addi v2 c1_i32_84
  let c8_i32_85 : BitVec 32 := 8#32
  let c0_i32_86 : BitVec 32 := 0#32
  let v144 : BitVec 1 := Scalar.cmpi .eq c8_i32_85 c0_i32_86
  let c1_i32_87 : BitVec 32 := 1#32
  let v145 : BitVec 32 := Scalar.select v144 c1_i32_87 c8_i32_85
  let v146 : BitVec 32 := Scalar.remsi v143 v145
  let c0_i32_89 : BitVec 32 := 0#32
  let v148 : BitVec 1 := Scalar.cmpi .slt v146 c0_i32_89
  let c0_i32_90 : BitVec 32 := 0#32
  let v149 : BitVec 1 := Scalar.cmpi .slt v145 c0_i32_90
  let v150 : BitVec 1 := Scalar.xori v148 v149
  let c0_i32_88 : BitVec 32 := 0#32
  let v147 : BitVec 1 := Scalar.cmpi .ne v146 c0_i32_88
  let v151 : BitVec 1 := Scalar.andi v150 v147
  let v152 : BitVec 32 := Scalar.addi v146 v145
  let v153 : BitVec 32 := Scalar.select v151 v152 v146
  let c64_i32_91 : BitVec 32 := 64#32
  let v155 : BitVec 32 := Scalar.muli v153 c64_i32_91
  let v160 : Index := Scalar.indexCast v155
  let c0_93 : Index := 0#32
  ![v160.toNat, 0]
def k0_off3 (d0 : Dev nD) (c1_i32_84 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v143 : BitVec 32 := Scalar.addi v2 c1_i32_84
  let c8_i32_85 : BitVec 32 := 8#32
  let c0_i32_86 : BitVec 32 := 0#32
  let v144 : BitVec 1 := Scalar.cmpi .eq c8_i32_85 c0_i32_86
  let c1_i32_87 : BitVec 32 := 1#32
  let v145 : BitVec 32 := Scalar.select v144 c1_i32_87 c8_i32_85
  let v146 : BitVec 32 := Scalar.remsi v143 v145
  let c0_i32_89 : BitVec 32 := 0#32
  let v148 : BitVec 1 := Scalar.cmpi .slt v146 c0_i32_89
  let c0_i32_90 : BitVec 32 := 0#32
  let v149 : BitVec 1 := Scalar.cmpi .slt v145 c0_i32_90
  let v150 : BitVec 1 := Scalar.xori v148 v149
  let c0_i32_88 : BitVec 32 := 0#32
  let v147 : BitVec 1 := Scalar.cmpi .ne v146 c0_i32_88
  let v151 : BitVec 1 := Scalar.andi v150 v147
  let v152 : BitVec 32 := Scalar.addi v146 v145
  let v153 : BitVec 32 := Scalar.select v151 v152 v146
  let c64_i32 : BitVec 32 := 64#32
  let v154 : BitVec 32 := Scalar.muli v153 c64_i32
  let v172 : Index := Scalar.indexCast v154
  let c0_96 : Index := 0#32
  ![v172.toNat, 0]
def k0_off4 (d0 : Dev nD) (c1_i32_84 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v143 : BitVec 32 := Scalar.addi v2 c1_i32_84
  let c8_i32_85 : BitVec 32 := 8#32
  let c0_i32_86 : BitVec 32 := 0#32
  let v144 : BitVec 1 := Scalar.cmpi .eq c8_i32_85 c0_i32_86
  let c1_i32_87 : BitVec 32 := 1#32
  let v145 : BitVec 32 := Scalar.select v144 c1_i32_87 c8_i32_85
  let v146 : BitVec 32 := Scalar.remsi v143 v145
  let c0_i32_89 : BitVec 32 := 0#32
  let v148 : BitVec 1 := Scalar.cmpi .slt v146 c0_i32_89
  let c0_i32_90 : BitVec 32 := 0#32
  let v149 : BitVec 1 := Scalar.cmpi .slt v145 c0_i32_90
  let v150 : BitVec 1 := Scalar.xori v148 v149
  let c0_i32_88 : BitVec 32 := 0#32
  let v147 : BitVec 1 := Scalar.cmpi .ne v146 c0_i32_88
  let v151 : BitVec 1 := Scalar.andi v150 v147
  let v152 : BitVec 32 := Scalar.addi v146 v145
  let v153 : BitVec 32 := Scalar.select v151 v152 v146
  let c64_i32 : BitVec 32 := 64#32
  let v154 : BitVec 32 := Scalar.muli v153 c64_i32
  let c0_i32_107 : BitVec 32 := 0#32
  ![v154.toNat, 0]
def k0_dev8 (d0 : Dev nD) : Nat :=
  let c0_i32_104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_84 : BitVec 32 := 1#32
  let v143 : BitVec 32 := Scalar.addi v2 c1_i32_84
  let c8_i32_85 : BitVec 32 := 8#32
  let c0_i32_86 : BitVec 32 := 0#32
  let v144 : BitVec 1 := Scalar.cmpi .eq c8_i32_85 c0_i32_86
  let c1_i32_87 : BitVec 32 := 1#32
  let v145 : BitVec 32 := Scalar.select v144 c1_i32_87 c8_i32_85
  let v146 : BitVec 32 := Scalar.remsi v143 v145
  let c0_i32_89 : BitVec 32 := 0#32
  let v148 : BitVec 1 := Scalar.cmpi .slt v146 c0_i32_89
  let c0_i32_90 : BitVec 32 := 0#32
  let v149 : BitVec 1 := Scalar.cmpi .slt v145 c0_i32_90
  let v150 : BitVec 1 := Scalar.xori v148 v149
  let c0_i32_88 : BitVec 32 := 0#32
  let v147 : BitVec 1 := Scalar.cmpi .ne v146 c0_i32_88
  let v151 : BitVec 1 := Scalar.andi v150 v147
  let v152 : BitVec 32 := Scalar.addi v146 v145
  let v153 : BitVec 32 := Scalar.select v151 v152 v146
  let c1_i32_103 : BitVec 32 := 1#32
  let v178 : BitVec 32 := Scalar.muli v153 c1_i32_103
  let v179 : BitVec 32 := Scalar.addi c0_i32_104 v178
  v179.toNat
def k0_dev9 (d0 : Dev nD) : Nat :=
  let c0_i32_129 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_108 : BitVec 32 := 2#32
  let v187 : BitVec 32 := Scalar.addi v2 c2_i32_108
  let c8_i32_109 : BitVec 32 := 8#32
  let c0_i32_110 : BitVec 32 := 0#32
  let v188 : BitVec 1 := Scalar.cmpi .eq c8_i32_109 c0_i32_110
  let c1_i32_111 : BitVec 32 := 1#32
  let v189 : BitVec 32 := Scalar.select v188 c1_i32_111 c8_i32_109
  let v190 : BitVec 32 := Scalar.remsi v187 v189
  let c0_i32_113 : BitVec 32 := 0#32
  let v192 : BitVec 1 := Scalar.cmpi .slt v190 c0_i32_113
  let c0_i32_114 : BitVec 32 := 0#32
  let v193 : BitVec 1 := Scalar.cmpi .slt v189 c0_i32_114
  let v194 : BitVec 1 := Scalar.xori v192 v193
  let c0_i32_112 : BitVec 32 := 0#32
  let v191 : BitVec 1 := Scalar.cmpi .ne v190 c0_i32_112
  let v195 : BitVec 1 := Scalar.andi v194 v191
  let v196 : BitVec 32 := Scalar.addi v190 v189
  let v197 : BitVec 32 := Scalar.select v195 v196 v190
  let c1_i32_128 : BitVec 32 := 1#32
  let v222 : BitVec 32 := Scalar.muli v197 c1_i32_128
  let v223 : BitVec 32 := Scalar.addi c0_i32_129 v222
  v223.toNat
def k0_dev10 (d0 : Dev nD) : Nat :=
  let c0_i32_154 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_133 : BitVec 32 := 3#32
  let v231 : BitVec 32 := Scalar.addi v2 c3_i32_133
  let c8_i32_134 : BitVec 32 := 8#32
  let c0_i32_135 : BitVec 32 := 0#32
  let v232 : BitVec 1 := Scalar.cmpi .eq c8_i32_134 c0_i32_135
  let c1_i32_136 : BitVec 32 := 1#32
  let v233 : BitVec 32 := Scalar.select v232 c1_i32_136 c8_i32_134
  let v234 : BitVec 32 := Scalar.remsi v231 v233
  let c0_i32_138 : BitVec 32 := 0#32
  let v236 : BitVec 1 := Scalar.cmpi .slt v234 c0_i32_138
  let c0_i32_139 : BitVec 32 := 0#32
  let v237 : BitVec 1 := Scalar.cmpi .slt v233 c0_i32_139
  let v238 : BitVec 1 := Scalar.xori v236 v237
  let c0_i32_137 : BitVec 32 := 0#32
  let v235 : BitVec 1 := Scalar.cmpi .ne v234 c0_i32_137
  let v239 : BitVec 1 := Scalar.andi v238 v235
  let v240 : BitVec 32 := Scalar.addi v234 v233
  let v241 : BitVec 32 := Scalar.select v239 v240 v234
  let c1_i32_153 : BitVec 32 := 1#32
  let v266 : BitVec 32 := Scalar.muli v241 c1_i32_153
  let v267 : BitVec 32 := Scalar.addi c0_i32_154 v266
  v267.toNat
def k0_dev11 (d0 : Dev nD) : Nat :=
  let c0_i32_179 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_158 : BitVec 32 := 4#32
  let v275 : BitVec 32 := Scalar.addi v2 c4_i32_158
  let c8_i32_159 : BitVec 32 := 8#32
  let c0_i32_160 : BitVec 32 := 0#32
  let v276 : BitVec 1 := Scalar.cmpi .eq c8_i32_159 c0_i32_160
  let c1_i32_161 : BitVec 32 := 1#32
  let v277 : BitVec 32 := Scalar.select v276 c1_i32_161 c8_i32_159
  let v278 : BitVec 32 := Scalar.remsi v275 v277
  let c0_i32_163 : BitVec 32 := 0#32
  let v280 : BitVec 1 := Scalar.cmpi .slt v278 c0_i32_163
  let c0_i32_164 : BitVec 32 := 0#32
  let v281 : BitVec 1 := Scalar.cmpi .slt v277 c0_i32_164
  let v282 : BitVec 1 := Scalar.xori v280 v281
  let c0_i32_162 : BitVec 32 := 0#32
  let v279 : BitVec 1 := Scalar.cmpi .ne v278 c0_i32_162
  let v283 : BitVec 1 := Scalar.andi v282 v279
  let v284 : BitVec 32 := Scalar.addi v278 v277
  let v285 : BitVec 32 := Scalar.select v283 v284 v278
  let c1_i32_178 : BitVec 32 := 1#32
  let v310 : BitVec 32 := Scalar.muli v285 c1_i32_178
  let v311 : BitVec 32 := Scalar.addi c0_i32_179 v310
  v311.toNat
def k0_dev12 (d0 : Dev nD) : Nat :=
  let c0_i32_204 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_183 : BitVec 32 := 5#32
  let v319 : BitVec 32 := Scalar.addi v2 c5_i32_183
  let c8_i32_184 : BitVec 32 := 8#32
  let c0_i32_185 : BitVec 32 := 0#32
  let v320 : BitVec 1 := Scalar.cmpi .eq c8_i32_184 c0_i32_185
  let c1_i32_186 : BitVec 32 := 1#32
  let v321 : BitVec 32 := Scalar.select v320 c1_i32_186 c8_i32_184
  let v322 : BitVec 32 := Scalar.remsi v319 v321
  let c0_i32_188 : BitVec 32 := 0#32
  let v324 : BitVec 1 := Scalar.cmpi .slt v322 c0_i32_188
  let c0_i32_189 : BitVec 32 := 0#32
  let v325 : BitVec 1 := Scalar.cmpi .slt v321 c0_i32_189
  let v326 : BitVec 1 := Scalar.xori v324 v325
  let c0_i32_187 : BitVec 32 := 0#32
  let v323 : BitVec 1 := Scalar.cmpi .ne v322 c0_i32_187
  let v327 : BitVec 1 := Scalar.andi v326 v323
  let v328 : BitVec 32 := Scalar.addi v322 v321
  let v329 : BitVec 32 := Scalar.select v327 v328 v322
  let c1_i32_203 : BitVec 32 := 1#32
  let v354 : BitVec 32 := Scalar.muli v329 c1_i32_203
  let v355 : BitVec 32 := Scalar.addi c0_i32_204 v354
  v355.toNat
def k0_dev13 (d0 : Dev nD) : Nat :=
  let c0_i32_229 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_208 : BitVec 32 := 6#32
  let v363 : BitVec 32 := Scalar.addi v2 c6_i32_208
  let c8_i32_209 : BitVec 32 := 8#32
  let c0_i32_210 : BitVec 32 := 0#32
  let v364 : BitVec 1 := Scalar.cmpi .eq c8_i32_209 c0_i32_210
  let c1_i32_211 : BitVec 32 := 1#32
  let v365 : BitVec 32 := Scalar.select v364 c1_i32_211 c8_i32_209
  let v366 : BitVec 32 := Scalar.remsi v363 v365
  let c0_i32_213 : BitVec 32 := 0#32
  let v368 : BitVec 1 := Scalar.cmpi .slt v366 c0_i32_213
  let c0_i32_214 : BitVec 32 := 0#32
  let v369 : BitVec 1 := Scalar.cmpi .slt v365 c0_i32_214
  let v370 : BitVec 1 := Scalar.xori v368 v369
  let c0_i32_212 : BitVec 32 := 0#32
  let v367 : BitVec 1 := Scalar.cmpi .ne v366 c0_i32_212
  let v371 : BitVec 1 := Scalar.andi v370 v367
  let v372 : BitVec 32 := Scalar.addi v366 v365
  let v373 : BitVec 32 := Scalar.select v371 v372 v366
  let c1_i32_228 : BitVec 32 := 1#32
  let v398 : BitVec 32 := Scalar.muli v373 c1_i32_228
  let v399 : BitVec 32 := Scalar.addi c0_i32_229 v398
  v399.toNat
def k0_dev14 (d0 : Dev nD) : Nat :=
  let c0_i32_254 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_233 : BitVec 32 := 7#32
  let v407 : BitVec 32 := Scalar.addi v2 c7_i32_233
  let c8_i32_234 : BitVec 32 := 8#32
  let c0_i32_235 : BitVec 32 := 0#32
  let v408 : BitVec 1 := Scalar.cmpi .eq c8_i32_234 c0_i32_235
  let c1_i32_236 : BitVec 32 := 1#32
  let v409 : BitVec 32 := Scalar.select v408 c1_i32_236 c8_i32_234
  let v410 : BitVec 32 := Scalar.remsi v407 v409
  let c0_i32_238 : BitVec 32 := 0#32
  let v412 : BitVec 1 := Scalar.cmpi .slt v410 c0_i32_238
  let c0_i32_239 : BitVec 32 := 0#32
  let v413 : BitVec 1 := Scalar.cmpi .slt v409 c0_i32_239
  let v414 : BitVec 1 := Scalar.xori v412 v413
  let c0_i32_237 : BitVec 32 := 0#32
  let v411 : BitVec 1 := Scalar.cmpi .ne v410 c0_i32_237
  let v415 : BitVec 1 := Scalar.andi v414 v411
  let v416 : BitVec 32 := Scalar.addi v410 v409
  let v417 : BitVec 32 := Scalar.select v415 v416 v410
  let c1_i32_253 : BitVec 32 := 1#32
  let v442 : BitVec 32 := Scalar.muli v417 c1_i32_253
  let v443 : BitVec 32 := Scalar.addi c0_i32_254 v442
  v443.toNat
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_258 : BitVec 32 := 64#32
  let v451 : BitVec 32 := Scalar.muli v2 c64_i32_258
  let v452 : Index := Scalar.indexCast v451
  let c0_259 : Index := 0#32
  ![v452.toNat, 0]
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_258 : BitVec 32 := 64#32
  let v451 : BitVec 32 := Scalar.muli v2 c64_i32_258
  let v456 : Index := Scalar.indexCast v451
  let c0_260 : Index := 0#32
  ![v456.toNat, 0]
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S512x256 : Shape := ⟨2, ![512, 256]⟩
abbrev S256x16 : Shape := ⟨2, ![256, 16]⟩
abbrev S512x1 : Shape := ⟨2, ![512, 1]⟩
abbrev S16x256x512 : Shape := ⟨3, ![16, 256, 512]⟩
abbrev S16 : Shape := ⟨1, ![16]⟩
abbrev S1x16 : Shape := ⟨2, ![1, 16]⟩
abbrev S512x16 : Shape := ⟨2, ![512, 16]⟩
abbrev S_ : Shape := ⟨0, ![]⟩
abbrev S512x16x512 : Shape := ⟨3, ![512, 16, 512]⟩
abbrev S512x16x1 : Shape := ⟨3, ![512, 16, 1]⟩
abbrev S512x512 : Shape := ⟨2, ![512, 512]⟩

abbrev nBuf : Space → Nat
  | .hbm => 30
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S256x16, .f32⟩
  | .hbm, ⟨2, _⟩ => ⟨S512x1, .i32⟩
  | .hbm, ⟨3, _⟩ => ⟨S16x256x512, .f32⟩
  | .hbm, ⟨4, _⟩ => ⟨S16, .i32⟩
  | .hbm, ⟨5, _⟩ => ⟨S1x16, .i32⟩
  | .hbm, ⟨6, _⟩ => ⟨S512x16, .i32⟩
  | .hbm, ⟨7, _⟩ => ⟨S512x16, .i32⟩
  | .hbm, ⟨8, _⟩ => ⟨S512x16, .i1⟩
  | .hbm, ⟨9, _⟩ => ⟨S512x16, .i32⟩
  | .hbm, ⟨10, _⟩ => ⟨S_, .i32⟩
  | .hbm, ⟨11, _⟩ => ⟨S_, .i32⟩
  | .hbm, ⟨12, _⟩ => ⟨S512x16, .i32⟩
  | .hbm, ⟨13, _⟩ => ⟨S512x16, .i32⟩
  | .hbm, ⟨14, _⟩ => ⟨S_, .i32⟩
  | .hbm, ⟨15, _⟩ => ⟨S512x16, .i32⟩
  | .hbm, ⟨16, _⟩ => ⟨S512x16, .i1⟩
  | .hbm, ⟨17, _⟩ => ⟨S_, .i32⟩
  | .hbm, ⟨18, _⟩ => ⟨S512x16, .i32⟩
  | .hbm, ⟨19, _⟩ => ⟨S512x16, .i1⟩
  | .hbm, ⟨20, _⟩ => ⟨S512x16, .i1⟩
  | .hbm, ⟨21, _⟩ => ⟨S512x16x512, .f32⟩
  | .hbm, ⟨22, _⟩ => ⟨S512x16x1, .i1⟩
  | .hbm, ⟨23, _⟩ => ⟨S_, .f32⟩
  | .hbm, ⟨24, _⟩ => ⟨S_, .f32⟩
  | .hbm, ⟨25, _⟩ => ⟨S512x16x512, .i1⟩
  | .hbm, ⟨26, _⟩ => ⟨S512x16x512, .f32⟩
  | .hbm, ⟨27, _⟩ => ⟨S512x16x512, .f32⟩
  | .hbm, ⟨28, _⟩ => ⟨S_, .f32⟩
  | .hbm, ⟨29, _⟩ => ⟨S512x512, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_call0_c : Ref sig .tc := ⟨.hbm, 10, rfl⟩
abbrev main_call0_call0_v0 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩

abbrev nD : Nat := 1
abbrev τ : Topo := Topo.v7x

variable {F : FTy → Type} [FloatOps F]
-- ==== Proof.Protocol.lean ====
/-
# The exchange between the eight devices

Each device computes, for every other device, the contribution of its own two experts to that device's 64 rows
and copies it there; it then adds the seven contributions that reach it to its own. This module writes the
exchange down as a schedule: for each semaphore, who raises it, by how much, and what the raise hands over.

* the barrier semaphore of a device is raised by that device itself, by seven; it hands over nothing;
* the credit semaphore `k` of device `q` is raised once, by `peer q k` (the device `k + 1` after it on the ring); it
  hands over that device's landing slot `k`;
* the send semaphore `k` of a device is raised by its own copy number `k`; it hands back the rows the copy read;
* the receive semaphore `k` of device `c` is raised by the copy of `back c k` (the device `k + 1` before it); it
  hands over the landing slot `k`, holding that device's contribution to `c`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

/-- The ghost state of the exchange, -/
abbrev UB : Type := URounds (GSem nD τ sig) Unit
/-- and the whole ghost state, with the staging copies' own. -/
abbrev UU : Type := UR sig nD τ × UB

local notation "𝕄" => MT nD τ sig Unit (Elt F) ℕ UU ℕ

/-- Where the staging copies' ghost state sits in it, -/
abbrev EP : Emb (UR sig nD τ) (MT nD τ sig Unit (Elt F) ℕ UU ℕ) := embL
/-- and where the exchange's does. -/
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring of devices -/

/-- The device `k + 1` places after `c`. -/
def peer (c : Dev nD) (k : Fin 7) : Dev nD := ⟨(c.val + k.val + 1) % 8, Nat.mod_lt _ (by decide)⟩
/-- The device `k + 1` places before `c`. -/
def back (c : Dev nD) (k : Fin 7) : Dev nD := ⟨(c.val + 7 - k.val) % 8, Nat.mod_lt _ (by decide)⟩

/-- Going forward and then back returns to the device, -/
theorem back_peer (c : Dev nD) (k : Fin 7) : back (peer c k) k = c := by revert c k; decide
/-- and so does going back and then forward. -/
theorem peer_back (c : Dev nD) (k : Fin 7) : peer (back c k) k = c := by revert c k; decide

/-! ## The buffers -/

/-- The whole staged activations, -/
abbrev xM : Memref sig .tc .vmem S512x256 .f32 := Memref.whole cc0_stg0_0
/-- the staged route, -/
abbrev iM : Memref sig .tc .vmem S512x1 .i32 := Memref.whole cc0_stg1_0
/-- the staged weights, -/
abbrev wM : Memref sig .tc .vmem S2x256x512 .f32 := Memref.whole cc0_stg2_0
/-- the staged result, -/
abbrev oM : Memref sig .tc .vmem S64x512 .f32 := Memref.whole cc0_stg3_0
/-- the contributions to be sent, -/
abbrev pM : Memref sig .tc .vmem S512x512 .bf16 := Memref.whole cc0_scratch0
/-- the gates, -/
abbrev gM : Memref sig .tc .vmem S512x2 .bf16 := Memref.whole cc0_scratch1
/-- and the landing slots. -/
abbrev vM : Memref sig .tc .vmem S7x64x512 .bf16 := Memref.whole cc0_scratch2

/-- A device's 64 rows lie inside the activations, -/
theorem inb_x (t : Dev nD) : ∀ a, (![64 * t.val, 0] : Fin 2 → ℕ) a + S64x256.size a ≤ S512x256.size a := by revert t; decide
/-- inside the gates, -/
theorem inb_g (t : Dev nD) : ∀ a, (![64 * t.val, 0] : Fin 2 → ℕ) a + S64x2.size a ≤ S512x2.size a := by revert t; decide
/-- inside the contributions, -/
theorem inb_p (t : Dev nD) : ∀ a, (![64 * t.val, 0] : Fin 2 → ℕ) a + S64x512.size a ≤ S512x512.size a := by revert t; decide
/-- and a landing slot lies inside the slots. -/
theorem inb_v (k : Fin 7) : ∀ a, (![k.val, 0, 0] : Fin 3 → ℕ) a + S1x64x512.size a ≤ S7x64x512.size a := by revert k; decide

/-- The 64 rows that belong to device `t`, of the activations, of the gates and of the contributions. -/
abbrev xRect (t : Dev nD) : Rect S512x256 := Rect.unit (s := S512x256) ![64 * t.val, 0] S64x256.size (inb_x t)
/-- The rows of device `t` among the gates, -/
abbrev gRect (t : Dev nD) : Rect S512x2 := Rect.unit (s := S512x2) ![64 * t.val, 0] S64x2.size (inb_g t)
/-- and among the contributions. -/
abbrev pRect (t : Dev nD) : Rect S512x512 := Rect.unit (s := S512x512) ![64 * t.val, 0] S64x512.size (inb_p t)
/-- The landing slot `k`. -/
abbrev vRect (k : Fin 7) : Rect S7x64x512 := Rect.unit (s := S7x64x512) ![k.val, 0, 0] S1x64x512.size (inb_v k)

/-- The rows of the contributions that go to device `t`, as the copy reads them; -/
abbrev chunkM (t : Dev nD) : Memref sig .tc .vmem S64x512 .bf16 := pM.slice (pRect t) (fun _ => rfl)
/-- the landing slot `k`, as the copy writes it. -/
abbrev slotM (k : Fin 7) : Memref sig .tc .vmem S64x512 .bf16 :=
  (vM.slice (vRect k) (fun _ => rfl)).squeeze S64x512 squeezes_S1x64x512_S64x512

/-- The elements of the contributions under device `t`'s rows, of the landing buffer under slot `k`. -/
def chunkSet (t : Dev nD) : Finset (cc0_scratch0 : Ref sig .tc).ty.Idx := (chunkM t).view.set
/-- The cells of landing slot `k`. -/
def slotSet (k : Fin 7) : Finset (cc0_scratch2 : Ref sig .tc).ty.Idx := (slotM k).view.set

/-! ## The semaphores -/

/-- The barrier semaphore, -/
abbrev barS : Sem sig := (SemArray.scalar (sig.barrier 0 rfl) : Sems sig S_).sem
/-- the credit semaphore `k`, -/
def crdS (k : Fin 7) : Sem sig := ⟨k.val, by have := k.isLt; show k.val < 8; omega⟩
/-- the send semaphore `k`, -/
def sndS (k : Fin 7) : DmaSem sig := ⟨4 + k.val, by have := k.isLt; show 4 + k.val < 18; omega⟩
/-- and the receive semaphore `k`. -/
def rcvS (k : Fin 7) : DmaSem sig := ⟨11 + k.val, by have := k.isLt; show 11 + k.val < 18; omega⟩

/-- The semaphores of the exchange: the barrier, and seven each for sending, receiving and credit. -/
abbrev CK : Type := Unit ⊕ (Fin 7 ⊕ (Fin 7 ⊕ Fin 7))
/-- The barrier's name, -/
abbrev kb : CK := .inl ()
/-- the send semaphore's, -/
abbrev ks (k : Fin 7) : CK := .inr (.inl k)
/-- the receive semaphore's, -/
abbrev kr (k : Fin 7) : CK := .inr (.inr (.inl k))
/-- and the credit semaphore's. -/
abbrev kc (k : Fin 7) : CK := .inr (.inr (.inr k))

/-- The semaphore of a name. -/
def csem : CK → SemLoc sig
  | .inl _ => .reg barS
  | .inr (.inl k) => .dma (sndS k)
  | .inr (.inr (.inl k)) => .dma (rcvS k)
  | .inr (.inr (.inr k)) => .reg (crdS k)

/-- Which semaphore of the exchange a semaphore is, if it is one. -/
def role : SemLoc sig → Option CK
  | .reg s => if h : s.val < 7 then some (kc ⟨s.val, h⟩) else some kb
  | .dma s => if s.val < 4 then none
      else if h : s.val - 4 < 7 then some (ks ⟨s.val - 4, h⟩)
      else if h : s.val - 11 < 7 then some (kr ⟨s.val - 11, h⟩) else none

/-- A semaphore of the exchange is found under its own name. -/
theorem role_csem (i : CK) : role (csem i) = some i := by revert i; decide

/-- The semaphore of a name on a device. -/
abbrev kcell (ck : Dev nD × CK) : GSem nD τ sig := ((ck.1 : Thread nD τ), csem ck.2)

/-- Different names are different semaphores, -/
theorem csem_injective : Function.Injective csem := fun i j h => by
  have h' := congrArg role h; rw [role_csem, role_csem] at h'; exact Option.some.inj h'

/-- and so they are across the devices. -/
theorem kcell_injective : Function.Injective (kcell : Dev nD × CK → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- The units one copy raises its two semaphores by. -/
abbrev N : ℕ := (chunkM (0 : Dev nD)).view.dmaCredit
/-- A copy raises its semaphores by something. -/
theorem N_pos : 0 < N := View.dmaCredit_pos _ (by decide)

/-! ## Contents -/

/-- Device `c`'s activations, routing and experts, as the launch finds them. -/
def xstg (c : Dev nD) : (cc0_stg0_0 : Ref sig .tc).ty.Contents (Elt F) :=
  (win0_0.blk (0 : Fin 1)).view.read (Elt F) ((s₀ m ρ).mem ((c : Thread nD τ).loc main_arg0))
/-- The route as it is staged on device `c`, -/
def istg (c : Dev nD) : (cc0_stg1_0 : Ref sig .tc).ty.Contents (Elt F) :=
  (win0_1.blk (0 : Fin 1)).view.read (Elt F) ((s₀ m ρ).mem ((c : Thread nD τ).loc main_arg2))
/-- and the weights. -/
def wstg (c : Dev nD) : (cc0_stg2_0 : Ref sig .tc).ty.Contents (Elt F) :=
  (win0_2.blk (0 : Fin 1)).view.read (Elt F) ((s₀ m ρ).mem ((c : Thread nD τ).loc main_arg3))

/-- Device `c`'s index as the kernel computes it. -/
def devw (c : Dev nD) : BitVec 32 := Scalar.remsi (Scalar.divsi (Dev.word c) 1#32) 8#32

/-- Device `c`'s gates: which token goes to which of its two experts. -/
def gates (c : Dev nD) : (cc0_scratch1 : Ref sig .tc).ty.Contents (Elt F) := k0_pay1 (devw c) (istg m ρ c)
/-- Its two experts' weights; -/
def w0 (c : Dev nD) : Vec F S1x256x512 .f32 :=
  wM.view.readAt (Elt F) (Rect.unit (s := S2x256x512) ![0, 0, 0] S1x256x512.size inb_S2x256x512_S1x256x512_0_0_0).toLoadRect (wstg m ρ c)
/-- and its second expert's; -/
def w1 (c : Dev nD) : Vec F S1x256x512 .f32 :=
  wM.view.readAt (Elt F) (Rect.unit (s := S2x256x512) ![1, 0, 0] S1x256x512.size inb_S2x256x512_S1x256x512_1_0_0).toLoadRect (wstg m ρ c)
/-- the rows of device `t` of its activations and gates. -/
def xrows (c t : Dev nD) : Vec F S64x256 .f32 := xM.view.readAt (Elt F) (xRect t).toLoadRect (xstg m ρ c)
/-- and of its gates. -/
def grows (c t : Dev nD) : Vec F S64x2 .bf16 := gM.view.readAt (Elt F) (gRect t).toLoadRect (gates m ρ c)
/-- Device `c`'s contribution to device `t`'s rows, as it is sent; -/
def contrib (c t : Dev nD) : Vec F S64x512 .bf16 := k0_pay4 (w0 m ρ c) (w1 m ρ c) (xrows m ρ c t) (grows m ρ c t)
/-- and to its own rows. -/
def own (c : Dev nD) : Vec F S64x512 .f32 :=
  k0_pay17 (k0_pay2 (w0 m ρ c)) (k0_pay3 (w1 m ρ c)) (xrows m ρ c c) (grows m ρ c c)
/-- What device `c` loads from its landing slot `k`. -/
def landed (c : Dev nD) (k : Fin 7) : Vec F S1x64x512 .bf16 := fun i =>
  contrib m ρ (back c k) c ((Shape.reshapeEquiv (Shape.Squeezes.numel_eq squeezes_S1x64x512_S64x512)).symm i)
/-- The kernel's result on device `c`. -/
def outAt (c : Dev nD) : (cc0_stg3_0 : Ref sig .tc).ty.Contents (Elt F) :=
  k0_pay20 (k0_pay19 (k0_pay18 (own m ρ c) (landed m ρ c 0) (landed m ρ c 1)) (landed m ρ c 2) (landed m ρ c 3) (landed m ρ c 4))
    (landed m ρ c 5) (landed m ρ c 6)

/-! ## The schedule -/

/-- A memref's elements held whole at some contents. -/
def held {s : Shape} {e : EltTy} (c : Dev nD) (M : Memref sig .tc .vmem s e) : sProp 𝕄 :=
  iprop(∃ f : Buf (Elt F) (M.view.loc (c : Thread nD τ)), M.view.loc (c : Thread nD τ) ↦[M.view.set]{fullShare} f)

/-- The same, reading `X` through the memref. -/
def heldAt {s : Shape} {e : EltTy} (c : Dev nD) (M : Memref sig .tc .vmem s e) (X : s.Idx → Elt F e) : sProp 𝕄 :=
  iprop(∃ f : Buf (Elt F) (M.view.loc (c : Thread nD τ)), ⌜M.view.read (Elt F) f = X⌝ ∗ M.view.loc (c : Thread nD τ) ↦[M.view.set]{fullShare} f)

omit [FloatOps F] in
/-- Holding a block can be stored in a semaphore's invariant, -/
instance held_storable {s : Shape} {e : EltTy} (c : Dev nD) (M : Memref sig .tc .vmem s e) :
    BI.Storable (upEmb : UEmb _ 𝕄) (held (F := F) c M) := by unfold held; infer_instance
omit [FloatOps F] in
/-- and so can holding it at given contents. -/
instance heldAt_storable {s : Shape} {e : EltTy} (c : Dev nD) (M : Memref sig .tc .vmem s e) (X : s.Idx → Elt F e) :
    BI.Storable (upEmb : UEmb _ 𝕄) (heldAt (F := F) c M X) := by unfold heldAt; infer_instance

omit [FloatOps F] in
/-- A block held at given contents is held. -/
theorem heldAt_held {s : Shape} {e : EltTy} (c : Dev nD) (M : Memref sig .tc .vmem s e) (X : s.Idx → Elt F e) :
    heldAt c M X ⊢ held (F := F) c M := by
  unfold heldAt held; iintro ⟨%f, -, H⟩; iexists f; iexact H

/-- What the raise of semaphore `i` of device `c` hands over. -/
def pay (c : Dev nD) : CK → sProp 𝕄
  | .inl _ => iprop(emp)
  | .inr (.inl k) => held c (chunkM (peer c k))
  | .inr (.inr (.inl k)) => heldAt c (slotM k) (contrib m ρ (back c k) c)
  | .inr (.inr (.inr k)) => held (peer c k) (slotM k)

/-- The units of that raise. -/
def amt : CK → ℕ
  | .inl _ => 7
  | .inr (.inl _) => N
  | .inr (.inr (.inl _)) => N
  | .inr (.inr (.inr _)) => 1

/-- Every raise is by something. -/
theorem amt_pos (i : CK) : 0 < amt i := by
  rcases i with _ | k | k | k
  · exact Nat.succ_pos _
  · exact N_pos
  · exact N_pos
  · exact Nat.one_pos

/-- Everything a raise hands over can be stored in an invariant, -/
instance pay_storable (c : Dev nD) (i : CK) : BI.Storable (upEmb : UEmb _ 𝕄) (pay (F := F) m ρ c i) := by
  rcases i with _ | k | k | k <;> unfold pay <;> infer_instance

/-- One round; in it each semaphore of the exchange is raised once. -/
def rd : Rounds.Schedule (GSem nD τ sig) Unit 𝕄 where
  duties g r := if r = 0 ∧ g.1.2 = .tc ∧ (role g.2).isSome then {()} else ∅
  unitless _ := False
  amount g _ _ := ((role g.2).map amt).getD 1
  payload g _ _ := ((role g.2).map (pay m ρ g.1.1)).getD iprop(emp)
  amount_pos g _ _ _ := by
    cases role g.2 with
    | none => exact Nat.one_pos
    | some i => exact amt_pos i

/-- and so the schedule's payloads can. -/
instance rd_payload_storable (g : GSem nD τ sig) (r : ℕ) (d : Unit) :
    BI.Storable (upEmb : UEmb _ 𝕄) ((rd (F := F) m ρ).payload g r d) := by
  show BI.Storable upEmb (((role g.2).map (pay m ρ g.1.1)).getD iprop(emp))
  cases role g.2 with
  | none => show BI.Storable upEmb iprop(emp); infer_instance
  | some i => show BI.Storable upEmb (pay m ρ g.1.1 i); infer_instance

section Sched
variable (c : Dev nD) (i : CK)

/-- A semaphore of the exchange has one duty, in its first round; -/
theorem duties_cell : (rd (F := F) m ρ).duties (kcell (c, i)) 0 = {()} := by
  dsimp only [rd]; exact if_pos ⟨rfl, rfl, by rw [role_csem]; rfl⟩
/-- there are no duties afterwards; -/
theorem duties_later (g : GSem nD τ sig) : ∀ r, 1 ≤ r → (rd (F := F) m ρ).duties g r = ∅ :=
  fun r hr => by dsimp only [rd]; rw [if_neg fun h => by omega]
/-- the duty is of the semaphore's amount -/
theorem amount_cell (d : Unit) : (rd (F := F) m ρ).amount (kcell (c, i)) 0 d = amt i := by
  dsimp only [rd]; rw [role_csem]; rfl
/-- and hands over its payload; -/
theorem payload_cell (d : Unit) : (rd (F := F) m ρ).payload (kcell (c, i)) 0 d = pay m ρ c i := by
  dsimp only [rd]; rw [role_csem]; rfl
/-- the round waits for that amount -/
theorem expect_cell : (rd (F := F) m ρ).expect (kcell (c, i)) 0 = amt i := by
  unfold Schedule.expect Schedule.amountOf; rw [duties_cell, Finset.sum_singleton, amount_cell]
/-- and yields that payload. -/
theorem rest_cell : bigSep ((rd (F := F) m ρ).duties (kcell (c, i)) 0 \ ∅) (fun d => (rd (F := F) m ρ).payload (kcell (c, i)) 0 d) = pay m ρ c i := by
  rw [Finset.sdiff_empty, duties_cell, bigSep_singleton, payload_cell]

end Sched

/-! ## Who pays which raise -/

/-- The device whose semaphore `i` device `c` raises. -/
def payee : CK → Dev nD ≃ Dev nD
  | .inl _ => Equiv.refl _
  | .inr (.inl _) => Equiv.refl _
  | .inr (.inr (.inl k)) => ⟨(peer · k), (back · k), fun c => back_peer c k, fun c => peer_back c k⟩
  | .inr (.inr (.inr k)) => ⟨(back · k), (peer · k), fun c => peer_back c k, fun c => back_peer c k⟩

/-- What a device may owe at launch: a send semaphore's raise is the device's own copy's, owed to nobody. -/
def due : CK → ℕ
  | .inl _ => 7
  | .inr (.inl _) => 0
  | .inr (.inr (.inl _)) => N
  | .inr (.inr (.inr _)) => 1

/-- `j` as a slot number. -/
def slotOf (j : ℕ) : Fin 7 := ⟨j % 7, Nat.mod_lt _ (by decide)⟩

/-- The last `j` copies' raises of their receivers' semaphores; -/
def oweR (c : Dev nD) : ℕ → CellTallies nD τ sig Unit
  | 0 => 0
  | j + 1 => oweR c j + tallyAt (kcell (peer c (slotOf (6 - j)), kr (slotOf (6 - j)))) () N
/-- the raises of the credit semaphores `0 … j - 1`, on top of all the copies'; -/
def oweC (c : Dev nD) : ℕ → CellTallies nD τ sig Unit
  | 0 => oweR c 7
  | j + 1 => oweC c j + tallyAt (kcell (back c (slotOf j), kc (slotOf j))) () 1
/-- all a device owes at launch. -/
def O₀ (c : Dev nD) : CellTallies nD τ sig Unit := oweC c 7 + tallyAt (kcell (c, kb)) () 7

/-- The levels of a semaphore: one on a device's core, none elsewhere. -/
def L (g : GSem nD τ sig) : Finset Unit := if g.1.2 = .tc then {()} else ∅

/-- The level of a semaphore: the barrier first, then the credits, then the copies. -/
def lvl : CK → ℕ
  | .inl _ => 1
  | .inr (.inl _) => 0
  | .inr (.inr (.inl _)) => 3
  | .inr (.inr (.inr _)) => 2
/-- The order of waiting: staging and send semaphores first, then the barrier, then credit, then receipt. -/
def lv (g : GSem nD τ sig) (_ : Unit) : ℕ := ((role g.2).map lvl).getD 0

/-- There are none off the core, -/
theorem L_of_ne (g : GSem nD τ sig) (h : g.1.2 ≠ .tc) : L g = ∅ := if_neg h
/-- one on it, -/
theorem L_tc (c : Dev nD) (sm : SemLoc sig) : L ((c : Thread nD τ), sm) = {()} := if_pos rfl
/-- and a semaphore of the exchange has its name's. -/
theorem lv_cell (c : Dev nD) (i : CK) (u : Unit) : lv (kcell (c, i)) u = lvl i := by unfold lv; rw [role_csem]; rfl

/-- What is owed after one more raise was owed before, or is that raise. -/
theorem tally_pos {g g' : GSem nD τ sig} {u : Unit} {n : ℕ} {O : CellTallies nD τ sig Unit}
    (h : 0 < (O + tallyAt g' () n) g u) : 0 < O g u ∨ g = g' := by
  rw [Pi.add_apply, Finsupp.add_apply, tallyAt_apply] at h
  by_cases hg : g = g'
  · exact .inr hg
  · rw [if_neg (fun h' => hg h'.1)] at h; exact .inl h

/-- Among the copies' debts there are only receive semaphores; -/
theorem oweR_pos {c : Dev nD} {j : ℕ} {g : GSem nD τ sig} {u : Unit} (h : 0 < oweR c j g u) : ∃ (d : Dev nD) (k : Fin 7), g = kcell (d, kr k) := by
  induction j with
  | zero => exact absurd h (Nat.lt_irrefl 0)
  | succ j ih => rcases tally_pos h with h | rfl; exacts [ih h, ⟨_, _, rfl⟩]

/-- with the credits' debts, only semaphores above the barrier; -/
theorem oweC_pos {c : Dev nD} {j : ℕ} {g : GSem nD τ sig} {u : Unit} (h : 0 < oweC c j g u) :
    ∃ (d : Dev nD) (i : CK), g = kcell (d, i) ∧ 2 ≤ lvl i := by
  induction j with
  | zero => obtain ⟨d, k, rfl⟩ := oweR_pos h; exact ⟨d, kr k, rfl, Nat.le_succ 2⟩
  | succ j ih => rcases tally_pos h with h | rfl; exacts [ih h, ⟨_, _, rfl, le_refl 2⟩]

/-- at the start, only semaphores of the exchange. -/
theorem O₀_pos {c : Dev nD} {g : GSem nD τ sig} {u : Unit} (h : 0 < O₀ c g u) :
    ∃ (d : Dev nD) (i : CK), g = kcell (d, i) ∧ 1 ≤ lvl i := by
  rcases tally_pos h with h | rfl
  · obtain ⟨d, i, rfl, hi⟩ := oweC_pos h; exact ⟨d, i, rfl, le_trans (by decide) hi⟩
  · exact ⟨_, _, rfl, le_refl 1⟩

omit [FloatOps F] in
/-- A device may wait at a semaphore below everything it owes. -/
theorem mayWait_below (c : Dev nD) (sm : SemLoc sig) (b : ℕ) (O : CellTallies nD τ sig Unit) (hb : lv ((c : Thread nD τ), sm) () ≤ b)
    (hO : ∀ g u, 0 < O g u → ∃ (d : Dev nD) (i : CK), g = kcell (d, i) ∧ b + 1 ≤ lvl i) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by obtain ⟨d, i, rfl, -⟩ := hO g u hg; exact Finset.mem_singleton_self _)
    (fun p hp => by rw [Finset.mem_singleton.mp hp]; exact hb)
    (fun g u hg => by obtain ⟨d, i, rfl, h⟩ := hO g u hg; rw [lv_cell]; exact h)

omit [FloatOps F] in
/-- A staging copy may be waited for, -/
theorem mayWait_stage (c : Dev nD) (q : DmaSem sig) (hq : role (.dma q) = none) (O : CellTallies nD τ sig Unit) (hO : O = O₀ c ∨ O = 0) :
    (levAts L lv : sProp 𝕄) ⊢ MayWait (c : Thread nD τ) (.dma q) () O := by
  rcases hO with rfl | rfl
  · exact mayWait_below c _ 0 _ (by unfold lv; rw [hq]; exact le_refl 0) fun g u h => O₀_pos h
  · rw [MayWait_zero]; iintro -; iempintro

omit [FloatOps F] in
/-- so may the barrier while credits and copies are owed, -/
theorem mayWait_bar (c : Dev nD) : (levAts L lv : sProp 𝕄) ⊢ MayWait (c : Thread nD τ) (csem kb) () (oweC c 7) :=
  mayWait_below c _ 1 _ (by rw [lv_cell c kb]; exact le_refl 1) fun g u h => oweC_pos h

omit [FloatOps F] in
/-- and a credit while copies are owed. -/
theorem mayWait_credit (c : Dev nD) (k : Fin 7) (j : ℕ) : (levAts L lv : sProp 𝕄) ⊢ MayWait (c : Thread nD τ) (csem (kc k)) () (oweR c j) :=
  mayWait_below c _ 2 _ (by rw [lv_cell c (kc k)]; exact le_refl 2) fun g u h => by
    obtain ⟨d, k', rfl⟩ := oweR_pos h; exact ⟨d, kr k', rfl, le_refl 3⟩

end Cert.Exchange

end
-- ==== Proof.Steps.lean ====
/-
# One operation of the exchange at a time

For each kind of operation the kernel performs — raising a semaphore, waiting at one, loading a device's rows, storing a
contribution, sending it, loading what has landed — what a device gives up and what it gets, for every device and every
slot. The kernel's own offsets and device numbers enter through equations.
-/
module

public import proofs.«01_k».proof.Proof.Protocol

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The body has no loop whose end must be argued. -/
abbrev 𝒱₀ : Variants := Variants.none

/-! ## The kernel's offsets and device numbers -/

/-- The four addresses computed for copy `k` are the rows of the device it goes to: where the activations are read, -/
theorem off1_eq (c : Dev nD) (k : Fin 7) : k0_off1 c (BitVec.ofNat 32 (1 + k.val)) = ![64 * (peer c k).val, 0] := by
  revert c k; decide +kernel
/-- where the gates are read, -/
theorem off2_eq (c : Dev nD) (k : Fin 7) : k0_off2 c (BitVec.ofNat 32 (1 + k.val)) = ![64 * (peer c k).val, 0] := by
  revert c k; decide +kernel
/-- where the contribution is written, -/
theorem off3_eq (c : Dev nD) (k : Fin 7) : k0_off3 c (BitVec.ofNat 32 (1 + k.val)) = ![64 * (peer c k).val, 0] := by
  revert c k; decide +kernel
/-- and where the copy reads it. -/
theorem off4_eq (c : Dev nD) (k : Fin 7) : k0_off4 c (BitVec.ofNat 32 (1 + k.val)) = ![64 * (peer c k).val, 0] := by
  revert c k; decide +kernel

/-- Credit number 1 goes to the device it names, 7 before the sender on the ring. -/
theorem dev1_eq (c : Dev nD) : (⟨k0_dev1 c, k0_dev1_lt c⟩ : Dev nD) = back c 6 := by revert c; decide +kernel
/-- Credit number 2 goes to the device it names, 6 before the sender on the ring. -/
theorem dev2_eq (c : Dev nD) : (⟨k0_dev2 c, k0_dev2_lt c⟩ : Dev nD) = back c 5 := by revert c; decide +kernel
/-- Credit number 3 goes to the device it names, 5 before the sender on the ring. -/
theorem dev3_eq (c : Dev nD) : (⟨k0_dev3 c, k0_dev3_lt c⟩ : Dev nD) = back c 4 := by revert c; decide +kernel
/-- Credit number 4 goes to the device it names, 4 before the sender on the ring. -/
theorem dev4_eq (c : Dev nD) : (⟨k0_dev4 c, k0_dev4_lt c⟩ : Dev nD) = back c 3 := by revert c; decide +kernel
/-- Credit number 5 goes to the device it names, 3 before the sender on the ring. -/
theorem dev5_eq (c : Dev nD) : (⟨k0_dev5 c, k0_dev5_lt c⟩ : Dev nD) = back c 2 := by revert c; decide +kernel
/-- Credit number 6 goes to the device it names, 2 before the sender on the ring. -/
theorem dev6_eq (c : Dev nD) : (⟨k0_dev6 c, k0_dev6_lt c⟩ : Dev nD) = back c 1 := by revert c; decide +kernel
/-- Credit number 7 goes to the device it names, 1 before the sender on the ring. -/
theorem dev7_eq (c : Dev nD) : (⟨k0_dev7 c, k0_dev7_lt c⟩ : Dev nD) = back c 0 := by revert c; decide +kernel
/-- Copy number 1 goes to the device it names, 1 after the sender on the ring. -/
theorem dev8_eq (c : Dev nD) : (⟨k0_dev8 c, k0_dev8_lt c⟩ : Dev nD) = peer c 0 := by revert c; decide +kernel
/-- Copy number 2 goes to the device it names, 2 after the sender on the ring. -/
theorem dev9_eq (c : Dev nD) : (⟨k0_dev9 c, k0_dev9_lt c⟩ : Dev nD) = peer c 1 := by revert c; decide +kernel
/-- Copy number 3 goes to the device it names, 3 after the sender on the ring. -/
theorem dev10_eq (c : Dev nD) : (⟨k0_dev10 c, k0_dev10_lt c⟩ : Dev nD) = peer c 2 := by revert c; decide +kernel
/-- Copy number 4 goes to the device it names, 4 after the sender on the ring. -/
theorem dev11_eq (c : Dev nD) : (⟨k0_dev11 c, k0_dev11_lt c⟩ : Dev nD) = peer c 3 := by revert c; decide +kernel
/-- Copy number 5 goes to the device it names, 5 after the sender on the ring. -/
theorem dev12_eq (c : Dev nD) : (⟨k0_dev12 c, k0_dev12_lt c⟩ : Dev nD) = peer c 4 := by revert c; decide +kernel
/-- Copy number 6 goes to the device it names, 6 after the sender on the ring. -/
theorem dev13_eq (c : Dev nD) : (⟨k0_dev13 c, k0_dev13_lt c⟩ : Dev nD) = peer c 5 := by revert c; decide +kernel
/-- Copy number 7 goes to the device it names, 7 after the sender on the ring. -/
theorem dev14_eq (c : Dev nD) : (⟨k0_dev14 c, k0_dev14_lt c⟩ : Dev nD) = peer c 6 := by revert c; decide +kernel

/-! ## What a device holds -/

/-- What all devices know: every semaphore of the exchange follows the schedule from round zero on, under the names
    `K`; and the order of waiting. -/
def known (K : Dev nD × CK → ℕ) : sProp 𝕄 :=
  iprop((bigSep Finset.univ fun ck : Dev nD × CK => cellInv ER (rd m ρ) (K ck) (kcell ck))
    ∗ (bigSep Finset.univ fun ck : Dev nD × CK => reached ER (kcell ck) 0) ∗ levAts L lv)

/-- What is known can be kept for good. -/
instance known_persistent (K : Dev nD × CK → ℕ) : BI.Persistent (known (F := F) m ρ K) := by unfold known; infer_instance

/-- It holds every semaphore's invariant, -/
theorem known_inv (K : Dev nD × CK → ℕ) (ck : Dev nD × CK) : known (F := F) m ρ K ⊢ cellInv ER (rd m ρ) (K ck) (kcell ck) := by
  unfold known; iintro ⟨H, -, -⟩
  have h : (bigSep Finset.univ fun ck : Dev nD × CK => (cellInv ER (rd (F := F) m ρ) (K ck) (kcell ck) : sProp 𝕄)) ⊢ cellInv ER (rd m ρ) (K ck) (kcell ck) :=
    bigSep_elim (Finset.mem_univ ck)
  iapply h; iexact H

/-- that every semaphore is in its first round, -/
theorem known_reached (K : Dev nD × CK → ℕ) (ck : Dev nD × CK) : known (F := F) m ρ K ⊢ reached ER (kcell ck) 0 := by
  unfold known; iintro ⟨-, H, -⟩
  have h : (bigSep Finset.univ fun ck : Dev nD × CK => (reached ER (kcell ck) 0 : sProp 𝕄)) ⊢ reached ER (kcell ck) 0 :=
    bigSep_elim (Finset.mem_univ ck)
  iapply h; iexact H

/-- and the levels. -/
theorem known_lev (K : Dev nD × CK → ℕ) : known (F := F) m ρ K ⊢ levAts L lv := by
  unfold known; iintro ⟨-, -, H⟩; iexact H

/-- What device `c` owes, whatever it has waited at; -/
def owing (c : Dev nD) (O : CellTallies nD τ sig Unit) : sProp 𝕄 := iprop(∃ W, owes (c : Thread nD τ) O W)
/-- the right to wait at its semaphore `i`; -/
def waiter (c : Dev nD) (i : CK) : sProp 𝕄 := iprop(atPos ER (kcell (c, i)) 0 ∅ 0 ∗ cred (tallyAt (kcell (c, i)) () (amt i)))
/-- the duty of raising semaphore `i` of device `d`; -/
abbrev duty (d : Dev nD) (i : CK) : sProp 𝕄 := dutyTok ER (kcell (d, i)) 0 ()
/-- its semaphore `i` back at zero; -/
abbrev atZero (c : Dev nD) (i : CK) : sProp 𝕄 := semVal (kcell (c, i)) 0

/-- its activations, routing, experts, gates and result, whole. -/
abbrev xAt (c : Dev nD) : sProp 𝕄 := (((c : Thread nD τ).loc cc0_stg0_0) ↦{fullShare} xstg m ρ c)
/-- the route, -/
abbrev iAt (c : Dev nD) : sProp 𝕄 := (((c : Thread nD τ).loc cc0_stg1_0) ↦{fullShare} istg m ρ c)
/-- the weights, -/
abbrev wAt (c : Dev nD) : sProp 𝕄 := (((c : Thread nD τ).loc cc0_stg2_0) ↦{fullShare} wstg m ρ c)
/-- the gates, computed, -/
abbrev gAt (c : Dev nD) : sProp 𝕄 := (((c : Thread nD τ).loc cc0_scratch1) ↦{fullShare} gates m ρ c)
/-- the gates, at any contents, -/
abbrev gAny (c : Dev nD) : sProp 𝕄 := iprop(∃ g : Buf (Elt F) ((c : Thread nD τ).loc cc0_scratch1), ((c : Thread nD τ).loc cc0_scratch1) ↦{fullShare} g)
/-- the result, computed, -/
abbrev oAt (c : Dev nD) : sProp 𝕄 := (((c : Thread nD τ).loc cc0_stg3_0) ↦{fullShare} outAt m ρ c)
/-- and the result, at any contents. -/
abbrev oAny (c : Dev nD) : sProp 𝕄 := iprop(∃ g : Buf (Elt F) ((c : Thread nD τ).loc cc0_stg3_0), ((c : Thread nD τ).loc cc0_stg3_0) ↦{fullShare} g)

section Steps

variable (K : Dev nD × CK → ℕ) (c : Dev nD)

/-! ## Semaphores -/

/-- Raising semaphore `i` of device `d`. -/
theorem step_signal {α : Type} {Q : α → sProp 𝕄} (d : Dev nD) (i : CK) {s : Sem sig} (hs : csem i = .reg s) {n : ℕ} (hn : amt i = n) (O : CellTallies nD τ sig Unit)
    {k : PUnit → Prog (TpuEff nD τ sig (Elt F) Λ₀ .tc) α} :
    iprop(known m ρ K ∗ owing c (O + tallyAt (kcell (d, i)) () n) ∗ duty d i ∗ pay m ρ d i)
      ⊢ iprop((owing c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (d, .tc) s n) k) Q) := by
  have e : kcell (d, i) = ((d, .tc), .reg s) := Prod.ext rfl hs
  unfold owing
  iintro ⟨#HK, ⟨%W, HO⟩, Ht, Hp⟩ Hk
  iapply (Rounds.wp_signal 𝒱₀ ER (rd m ρ) (c : Thread nD τ) none (dst := (d, .tc)) (sem := s) (r := 0) (κ := K (d, i)) (d := ())
      (by rw [← e, duties_cell]; exact Finset.mem_singleton_self _) (by rw [← e, amount_cell]; exact hn) () O (by rw [← e])) $$ [HO Ht Hp]
  · rw [← e]
    isplitr; · iapply (known_inv m ρ K (d, i)); iexact HK
    isplitl [HO]; · iexact HO
    isplitl [Ht]; · iexact Ht
    isplitl [Hp]; · rw [payload_cell]; iexact Hp
    iapply (known_reached m ρ K (d, i)); iexact HK
  iintro HO
  iapply Hk
  iexists W; iexact HO

/-- Waiting at the device's own semaphore `i`: what its raise hands over arrives, and the semaphore is back at zero. -/
theorem step_wait {α : Type} {Q : α → sProp 𝕄} (i : CK) {w : TpuEff nD τ sig (Elt F) Λ₀ .tc PUnit} {sm : SemLoc sig} (hs : csem i = sm)
    (hw : ∀ K : PUnit → sProp 𝕄, wpE (defs₀ (F := F)) 𝒱₀ (c : Thread nD τ) none Set.univ w K = waitSpec (c : Thread nD τ) Set.univ sm (amt i) K)
    (O : CellTallies nD τ sig Unit) (hO : (levAts L lv : sProp 𝕄) ⊢ MayWait (c : Thread nD τ) (csem i) () O)
    {k : PUnit → Prog (TpuEff nD τ sig (Elt F) Λ₀ .tc) α} :
    iprop(known m ρ K ∗ owing c O ∗ waiter c i)
      ⊢ iprop(((owing c O ∗ atZero c i ∗ pay m ρ c i) -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  subst hs
  unfold waiter owing
  iintro ⟨#HK, ⟨%W, HO⟩, Ha, Hc⟩ Hk
  iapply (Rounds.wp_wait_rest_token 𝒱₀ ER (rd m ρ) (c : Thread nD τ) none (κ := K (c, i)) hw (Set.mem_univ _) ()
      (O := O) (W := W) (R := 0) (m := 0) (T := ∅) (by rw [Nat.zero_add]; exact (expect_cell m ρ c i).symm)) $$ [Hc HO Ha]
  · isplitr; · iapply (known_inv m ρ K (c, i)); iexact HK
    isplitl [Hc]; · iexact Hc
    isplitl [HO]; · iexact HO
    isplitr; · iapply hO; iapply (known_lev m ρ K); iexact HK
    iexact Ha
  iintro ⟨HO, Ha, -, Hp⟩
  ihave Hp := (Entails.of_eq (rest_cell m ρ c i)) $$ Hp
  imod (Rounds.cell_close ER (rd m ρ) (Set.mem_univ (K (c, i))) (fun h => h) (R := 0 + 1) (duties_later m ρ (kcell (c, i)))) $$ [Ha] with Hz
  · isplitr; · iapply (known_inv m ρ K (c, i)); iexact HK
    iexact Ha
  iapply Hk
  isplitl [HO]; · iexists _; iexact HO
  isplitl [Hz] <;> iassumption

/-- Waiting at the barrier, once the device has raised it. -/
theorem step_barrier {α : Type} {Q : α → sProp 𝕄} {n : ℕ} (hn : 7 = n) {k : PUnit → Prog (TpuEff nD τ sig (Elt F) Λ₀ .tc) α} :
    iprop(known m ρ K ∗ owing c (oweC c 7) ∗ waiter c kb)
      ⊢ iprop(((owing c (oweC c 7) ∗ atZero c kb) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS n) k) Q) := by
  subst hn
  iintro H Hk
  iapply (step_wait m ρ K c kb rfl (wpE_semWait_eq 𝒱₀ (c : Thread nD τ) none Set.univ) (oweC c 7) (mayWait_bar c)) $$ H
  iintro ⟨HO, Hz, -⟩
  iapply Hk; isplitl [HO] <;> iassumption

/-- Waiting for credit `k`: the receiver's slot arrives. -/
theorem step_credit {α : Type} {Q : α → sProp 𝕄} (k : Fin 7) {s : Sem sig} (hs : crdS k = s) {n : ℕ} (hn : 1 = n) (j : ℕ)
    {kt : PUnit → Prog (TpuEff nD τ sig (Elt F) Λ₀ .tc) α} :
    iprop(known m ρ K ∗ owing c (oweR c j) ∗ waiter c (kc k))
      ⊢ iprop(((owing c (oweR c j) ∗ atZero c (kc k) ∗ held (peer c k) (slotM k)) -∗ wp frame (wpE (defs₀ (F := F)) 𝒱₀ (c : Thread nD τ) none) Set.univ (kt ⟨⟩) Q)
          -∗ wp frame (wpE (defs₀ (F := F)) 𝒱₀ (c : Thread nD τ) none) Set.univ (.op (.semWait s n) kt) Q) := by
  subst hn hs
  exact step_wait m ρ K c (kc k) rfl (wpE_semWait_eq 𝒱₀ (c : Thread nD τ) none Set.univ) (oweR c j) (mayWait_credit c k j)

/-- Waiting for the receipt of slot `k`. -/
theorem step_recv {α : Type} {Q : α → sProp 𝕄} (k : Fin 7) {s : DmaSem sig} (hs : rcvS k = s) {sp : Space} {e : EltTy} {sh : Shape} {src : Memref sig .tc sp sh e}
    {M : Memref sig .tc .vmem S64x512 .bf16} (hM : slotM k = M) {hsrc : src.view.WordExact} {hdst : M.view.WordExact}
    {kt : PUnit → Prog (TpuEff nD τ sig (Elt F) Λ₀ .tc) α} :
    iprop(known m ρ K ∗ owing c 0 ∗ waiter c (kr k))
      ⊢ iprop(((owing c 0 ∗ atZero c (kr k) ∗ heldAt c (slotM k) (contrib m ρ (back c k) c)) -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 s src M hsrc hdst) kt) Q) := by
  subst hs hM
  exact step_wait m ρ K c (kr k) rfl (wpE_waitDma2_eq 𝒱₀ (c : Thread nD τ) none Set.univ (src := src) (hsrc := hsrc) (dst := slotM k) (hdst := hdst)) 0 (by rw [MayWait_zero]; iintro -; iempintro)

/-- Waiting until copy `k` has been read. -/
theorem step_sent {α : Type} {Q : α → sProp 𝕄} (k : Fin 7) {s : DmaSem sig} (hs : sndS k = s) {sp : Space} {e : EltTy} {sh : Shape} {src : Memref sig .tc sp sh e}
    {off : Fin 2 → ℕ} (hoff : off = ![64 * (peer c k).val, 0]) {inb : ∀ a, off a + S64x512.size a ≤ S512x512.size a}
    {hsl} {hsrc : src.view.WordExact} {hdst : (pM.slice (Rect.unit (s := S512x512) off S64x512.size inb) hsl).view.WordExact}
    {kt : PUnit → Prog (TpuEff nD τ sig (Elt F) Λ₀ .tc) α} :
    iprop(known m ρ K ∗ owing c 0 ∗ waiter c (ks k))
      ⊢ iprop(((owing c 0 ∗ atZero c (ks k) ∗ held c (chunkM (peer c k))) -∗ wp frame (wpE (defs₀ (F := F)) 𝒱₀ (c : Thread nD τ) none) Set.univ (kt ⟨⟩) Q)
          -∗ wp frame (wpE (defs₀ (F := F)) 𝒱₀ (c : Thread nD τ) none) Set.univ
              (.op (.waitDma2 s src (pM.slice (Rect.unit (s := S512x512) off S64x512.size inb) hsl) hsrc hdst) kt) Q) := by
  subst hs hoff
  exact step_wait m ρ K c (ks k) rfl (wpE_waitDma2_eq 𝒱₀ (c : Thread nD τ) none Set.univ (src := src) (hsrc := hsrc) (dst := chunkM (peer c k)) (hdst := hdst)) 0 (by rw [MayWait_zero]; iintro -; iempintro)

/-! ## The copies -/

/-- Sending its contribution to the device `k + 1` after it, into that device's slot `k`. -/
theorem step_send {α : Type} {Q : α → sProp 𝕄} (k : Fin 7) {j : ℕ} (hj : slotOf (6 - j) = k) {n : Dev nD} (hn : n = peer c k) {off : Fin 2 → ℕ} (hoff : off = ![64 * (peer c k).val, 0])
    {inb : ∀ a, off a + S64x512.size a ≤ S512x512.size a} {hsl} {M : Memref sig .tc .vmem S64x512 .bf16} (hM : slotM k = M)
    {s r : DmaSem sig} (hs : sndS k = s) (hr : rcvS k = r) {hsc : M.view.ref.isScScratch = false}
    {hsrc : (pM.slice (Rect.unit (s := S512x512) off S64x512.size inb) hsl).view.WordExact} {hdst : M.view.WordExact}
    {hsem : DmaTarget.Typed .vmem (.dma r) (.remote (Dev.tc n : Thread nD τ) M (.dma s) hsc)}
    {X : Vec F S64x512 .bf16} (hX : X = contrib m ρ c (peer c k))
    {kt : PUnit → Prog (TpuEff nD τ sig (Elt F) Λ₀ .tc) α} :
    iprop(known m ρ K ∗ owing c (oweR c (j + 1)) ∗ heldAt c (chunkM (peer c k)) X ∗ held (peer c k) (slotM k) ∗ atPos ER (kcell (c, ks k)) 0 ∅ 0
        ∗ duty c (ks k) ∗ duty (peer c k) (kr k))
      ⊢ iprop(((owing c (oweR c j) ∗ waiter c (ks k)) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (pM.slice (Rect.unit (s := S512x512) off S64x512.size inb) hsl) (.remote (Dev.tc n : Thread nD τ) M (.dma s) hsc) (.dma r) hsrc hdst hsem) kt) Q) := by
  subst hn hoff hM hs hr hX
  unfold heldAt held owing
  iintro ⟨#HK, ⟨%W, HO⟩, ⟨%fs, %hfs, Hs⟩, ⟨%fd, Hd⟩, Ha, Ht, Ht'⟩ Hk
  iapply (Rounds.wp_send_pointsTo 𝒱₀ ER (rd m ρ) (c : Thread nD τ) none (κ₁ := K (c, ks k)) (κ₂ := K (peer c k, kr k))
      (r₁ := 0) (r₂ := 0) (d₁ := ()) (d₂ := ()) (fs := fs) (fd := fd)
      (by rw [duties_cell m ρ c (ks k)]; exact Finset.mem_singleton_self _) (by rw [duties_cell m ρ (peer c k) (kr k)]; exact Finset.mem_singleton_self _)
      () () N rfl (amount_cell m ρ c (ks k) ()) (amount_cell m ρ (peer c k) (kr k) ()) (oweR c j) (by subst hj; rfl) (W := W)
      (by rw [payload_cell m ρ c (ks k)]; show _ ⊢ held c (chunkM (peer c k)); unfold held; iintro H; iexists fs; iexact H)
      (by
        rw [payload_cell m ρ (peer c k) (kr k)]
        show _ ⊢ heldAt (peer c k) (slotM k) (contrib m ρ (back (peer c k) k) (peer c k))
        unfold heldAt; rw [back_peer]
        iintro H; iexists _; isplitr; rotate_left; · iexact H
        ipureintro; rw [View.read_write_univ]; exact hfs)) $$ [Hs Hd HO Ht Ht']
  · isplitr; · iapply (known_inv m ρ K (c, ks k)); iexact HK
    isplitr; · iapply (known_inv m ρ K (peer c k, kr k)); iexact HK
    isplitl [Hs]; · iexact Hs
    isplitl [Hd]; · iexact Hd
    isplitl [HO]; · iexact HO
    isplitl [Ht]; · iexact Ht
    isplitr; · iapply (known_reached m ρ K (c, ks k)); iexact HK
    isplitl [Ht']; · iexact Ht'
    iapply (known_reached m ρ K (peer c k, kr k)); iexact HK
  iintro ⟨Hc, HO⟩
  iapply Hk
  isplitl [HO]; · iexists _; iexact HO
  unfold waiter; isplitl [Ha]; · iexact Ha
  iexact Hc

/-! ## Loads and stores -/

/-- Loading device `t`'s rows of the activations. -/
theorem step_x {α : Type} {Q : α → sProp 𝕄} (t : Dev nD) {off : Fin 2 → ℕ} (hoff : off = ![64 * t.val, 0]) {inb : ∀ a, off a + S64x256.size a ≤ S512x256.size a} {hl}
    {k : Vec F S64x256 .f32 → Prog (TpuEff nD τ sig (Elt F) Λ₀ .tc) α} :
    xAt m ρ c ⊢ iprop((xAt m ρ c -∗ wp frame (wpE (defs₀ (F := F)) 𝒱₀ (c : Thread nD τ) none) Set.univ (k (xrows m ρ c t)) Q)
        -∗ wp frame (wpE (defs₀ (F := F)) 𝒱₀ (c : Thread nD τ) none) Set.univ (.op (.load xM (Rect.unit (s := S512x256) off S64x256.size inb).toLoadRect hl) k) Q) := by
  subst hoff
  exact wp_load 𝒱₀ (c : Thread nD τ) none Set.univ (m := xM) (Finset.subset_univ _)

/-- Loading device `t`'s rows of the gates. -/
theorem step_g {α : Type} {Q : α → sProp 𝕄} (t : Dev nD) {off : Fin 2 → ℕ} (hoff : off = ![64 * t.val, 0]) {inb : ∀ a, off a + S64x2.size a ≤ S512x2.size a} {hl}
    {k : Vec F S64x2 .bf16 → Prog (TpuEff nD τ sig (Elt F) Λ₀ .tc) α} :
    gAt m ρ c ⊢ iprop((gAt m ρ c -∗ wp frame (wpE (defs₀ (F := F)) 𝒱₀ (c : Thread nD τ) none) Set.univ (k (grows m ρ c t)) Q)
        -∗ wp frame (wpE (defs₀ (F := F)) 𝒱₀ (c : Thread nD τ) none) Set.univ (.op (.load gM (Rect.unit (s := S512x2) off S64x2.size inb).toLoadRect hl) k) Q) := by
  subst hoff
  exact wp_load 𝒱₀ (c : Thread nD τ) none Set.univ (m := gM) (Finset.subset_univ _)

/-- Loading the contribution to device `t` before it is stored: the value is not used. -/
theorem step_peek {α : Type} {Q : α → sProp 𝕄} (t : Dev nD) {off : Fin 2 → ℕ} (hoff : off = ![64 * t.val, 0]) {inb : ∀ a, off a + S64x512.size a ≤ S512x512.size a} {hl}
    {k : Vec F S64x512 .bf16 → Prog (TpuEff nD τ sig (Elt F) Λ₀ .tc) α} :
    held c (chunkM t) ⊢ iprop((∀ v, held c (chunkM t) -∗ wp frame (wpE (defs₀ (F := F)) 𝒱₀ (c : Thread nD τ) none) Set.univ (k v) Q)
        -∗ wp frame (wpE (defs₀ (F := F)) 𝒱₀ (c : Thread nD τ) none) Set.univ (.op (.load pM (Rect.unit (s := S512x512) off S64x512.size inb).toLoadRect hl) k) Q) := by
  subst hoff
  unfold held
  iintro ⟨%f, H⟩ Hk
  iapply (wp_load_rect 𝒱₀ (c : Thread nD τ) none Set.univ (m := pM) (r := pRect t) (f := f) (Finset.Subset.refl _)) $$ [H]
  · iexact H
  iintro H
  iapply Hk
  iexists f; iexact H

/-- Storing the contribution to device `t`. -/
theorem step_put {α : Type} {Q : α → sProp 𝕄} (t : Dev nD) {off : Fin 2 → ℕ} (hoff : off = ![64 * t.val, 0]) {inb : ∀ a, off a + S64x512.size a ≤ S512x512.size a}
    {X : Vec F S64x512 .bf16} {hx hm} {k : PUnit → Prog (TpuEff nD τ sig (Elt F) Λ₀ .tc) α} :
    held c (chunkM t) ⊢ iprop((heldAt c (chunkM t) X -∗ wp frame (wpE (defs₀ (F := F)) 𝒱₀ (c : Thread nD τ) none) Set.univ (k ⟨⟩) Q)
        -∗ wp frame (wpE (defs₀ (F := F)) 𝒱₀ (c : Thread nD τ) none) Set.univ (.op (.store pM (Rect.unit (s := S512x512) off S64x512.size inb) X Finset.univ hx hm) k) Q) := by
  subst hoff
  unfold held heldAt
  iintro ⟨%f, H⟩ Hk
  iapply (wp_store 𝒱₀ (c : Thread nD τ) none Set.univ (m := pM) (r := pRect t) (Mk := Finset.univ) (f := f) (Finset.Subset.refl _)) $$ [H]
  · iexact H
  iintro H
  iapply Hk
  iexists _; isplitr; rotate_left; · iexact H
  ipureintro; exact View.read_write_univ _ _

/-- Loading landing slot `k`, with the contribution of the device `k + 1` before it. -/
theorem step_landed {α : Type} {Q : α → sProp 𝕄} (k : Fin 7) {off : Fin 3 → ℕ} (hoff : off = ![k.val, 0, 0]) {inb : ∀ a, off a + S1x64x512.size a ≤ S7x64x512.size a} {hl}
    {kt : Vec F S1x64x512 .bf16 → Prog (TpuEff nD τ sig (Elt F) Λ₀ .tc) α} :
    heldAt c (slotM k) (contrib m ρ (back c k) c)
      ⊢ iprop((heldAt c (slotM k) (contrib m ρ (back c k) c) -∗ wp frame (wpE (defs₀ (F := F)) 𝒱₀ (c : Thread nD τ) none) Set.univ (kt (landed m ρ c k)) Q)
        -∗ wp frame (wpE (defs₀ (F := F)) 𝒱₀ (c : Thread nD τ) none) Set.univ (.op (.load vM (Rect.unit (s := S7x64x512) off S1x64x512.size inb).toLoadRect hl) kt) Q) := by
  subst hoff
  unfold heldAt
  iintro ⟨%f, %hf, H⟩ Hk
  have e : (vM.access (vRect k)).read (Elt F) f = landed m ρ c k := by
    funext i
    have h := congrFun hf ((Shape.reshapeEquiv (Shape.Squeezes.numel_eq squeezes_S1x64x512_S64x512)).symm i)
    unfold landed; rw [← h]
    exact (congrArg ((vM.access (vRect k)).read (Elt F) f) (Equiv.apply_symm_apply _ i)).symm
  have hset : (slotM k).view.set = (vM.access (vRect k)).set := View.set_reshape _ _
  iapply (wp_load_rect 𝒱₀ (c : Thread nD τ) none Set.univ (m := vM) (r := vRect k) (S := (slotM k).view.set) (f := f) (by rw [hset])) $$ [H]
  · iexact H
  rw [e]
  iintro H
  iapply Hk
  iexists f; isplitr; · (ipureintro; exact hf)
  iexact H

/-! ## Whole buffers -/

/-- The pair of zeros is zero everywhere. -/
theorem zero2 : (![0, 0] : Fin 2 → Nat) = fun _ => 0 := by funext a; match a with | ⟨0, _⟩ => rfl | ⟨1, _⟩ => rfl

/-- Loading the routing. -/
theorem step_route {α : Type} {Q : α → sProp 𝕄} {inb : ∀ a, (![0, 0] : Fin 2 → ℕ) a + S512x1.size a ≤ S512x1.size a} {hl}
    {k : Vec F S512x1 .i32 → Prog (TpuEff nD τ sig (Elt F) Λ₀ .tc) α} :
    iAt m ρ c ⊢ iprop((iAt m ρ c -∗ wp frame (wpE (defs₀ (F := F)) 𝒱₀ (c : Thread nD τ) none) Set.univ (k (istg m ρ c)) Q)
        -∗ wp frame (wpE (defs₀ (F := F)) 𝒱₀ (c : Thread nD τ) none) Set.univ (.op (.load iM (Rect.unit (s := S512x1) ![0, 0] S512x1.size inb).toLoadRect hl) k) Q) := by
  have e : (iM : Memref sig .tc .vmem S512x1 .i32).view.readAt (Elt F) (Rect.unit (s := S512x1) ![0, 0] S512x1.size inb).toLoadRect (istg m ρ c) = istg m ρ c :=
    Memref.readAt_unit_zero (Elt F) cc0_stg1_0 zero2 _ _
  iintro H Hk
  iapply (wp_load 𝒱₀ (c : Thread nD τ) none Set.univ (m := iM) (Finset.subset_univ _)) $$ H
  rw [e]
  iexact Hk

/-- Loading the gates before they are stored: the value is not used. -/
theorem step_gpeek {α : Type} {Q : α → sProp 𝕄} {inb : ∀ a, (![0, 0] : Fin 2 → ℕ) a + S512x2.size a ≤ S512x2.size a} {hl}
    {k : Vec F S512x2 .bf16 → Prog (TpuEff nD τ sig (Elt F) Λ₀ .tc) α} :
    gAny c ⊢ iprop((∀ v, gAny c -∗ wp frame (wpE (defs₀ (F := F)) 𝒱₀ (c : Thread nD τ) none) Set.univ (k v) Q)
        -∗ wp frame (wpE (defs₀ (F := F)) 𝒱₀ (c : Thread nD τ) none) Set.univ (.op (.load gM (Rect.unit (s := S512x2) ![0, 0] S512x2.size inb).toLoadRect hl) k) Q) := by
  iintro ⟨%g, H⟩ Hk
  iapply (wp_load 𝒱₀ (c : Thread nD τ) none Set.univ (m := gM) (f := g) (Finset.subset_univ _)) $$ [H]
  · iexact H
  iintro H
  iapply Hk
  iexists g; iexact H

/-- Storing the gates. -/
theorem step_gput {α : Type} {Q : α → sProp 𝕄} {inb : ∀ a, (![0, 0] : Fin 2 → ℕ) a + S512x2.size a ≤ S512x2.size a} {X : Vec F S512x2 .bf16} {hx hm}
    (hX : X = gates m ρ c) {k : PUnit → Prog (TpuEff nD τ sig (Elt F) Λ₀ .tc) α} :
    gAny c ⊢ iprop((gAt m ρ c -∗ wp frame (wpE (defs₀ (F := F)) 𝒱₀ (c : Thread nD τ) none) Set.univ (k ⟨⟩) Q)
        -∗ wp frame (wpE (defs₀ (F := F)) 𝒱₀ (c : Thread nD τ) none) Set.univ (.op (.store gM (Rect.unit (s := S512x2) ![0, 0] S512x2.size inb) X Finset.univ hx hm) k) Q) := by
  subst hX
  iintro ⟨%g, H⟩ Hk
  iapply (wp_store 𝒱₀ (c : Thread nD τ) none Set.univ (m := gM) (r := Rect.unit (s := S512x2) ![0, 0] S512x2.size inb) (Mk := Finset.univ) (f := g) (Finset.subset_univ _)) $$ [H]
  · iexact H
  rw [show ((gM : Memref sig .tc .vmem S512x2 .bf16).access (Rect.unit (s := S512x2) ![0, 0] S512x2.size inb) : View sig .tc _ _ _).write (Elt F) g (gates m ρ c) Finset.univ = gates m ρ c
      from Memref.write_access_unit_zero_univ (Elt F) cc0_scratch1 zero2 _ g _]
  iintro H
  iapply Hk; iexact H

/-- Loading the first, the second expert. -/
theorem step_w0 {α : Type} {Q : α → sProp 𝕄} {hl} {k : Vec F S1x256x512 .f32 → Prog (TpuEff nD τ sig (Elt F) Λ₀ .tc) α} :
    wAt m ρ c ⊢ iprop((wAt m ρ c -∗ wp frame (wpE (defs₀ (F := F)) 𝒱₀ (c : Thread nD τ) none) Set.univ (k (w0 m ρ c)) Q)
        -∗ wp frame (wpE (defs₀ (F := F)) 𝒱₀ (c : Thread nD τ) none) Set.univ
            (.op (.load wM (Rect.unit (s := S2x256x512) ![0, 0, 0] S1x256x512.size inb_S2x256x512_S1x256x512_0_0_0).toLoadRect hl) k) Q) :=
  wp_load 𝒱₀ (c : Thread nD τ) none Set.univ (m := wM) (Finset.subset_univ _)
/-- The second expert's weights are loaded. -/
theorem step_w1 {α : Type} {Q : α → sProp 𝕄} {hl} {k : Vec F S1x256x512 .f32 → Prog (TpuEff nD τ sig (Elt F) Λ₀ .tc) α} :
    wAt m ρ c ⊢ iprop((wAt m ρ c -∗ wp frame (wpE (defs₀ (F := F)) 𝒱₀ (c : Thread nD τ) none) Set.univ (k (w1 m ρ c)) Q)
        -∗ wp frame (wpE (defs₀ (F := F)) 𝒱₀ (c : Thread nD τ) none) Set.univ
            (.op (.load wM (Rect.unit (s := S2x256x512) ![1, 0, 0] S1x256x512.size inb_S2x256x512_S1x256x512_1_0_0).toLoadRect hl) k) Q) :=
  wp_load 𝒱₀ (c : Thread nD τ) none Set.univ (m := wM) (Finset.subset_univ _)

/-- Loading the result before it is stored: the value is not used. -/
theorem step_opeek {α : Type} {Q : α → sProp 𝕄} {inb : ∀ a, (![0, 0] : Fin 2 → ℕ) a + S64x512.size a ≤ S64x512.size a} {hl}
    {k : Vec F S64x512 .f32 → Prog (TpuEff nD τ sig (Elt F) Λ₀ .tc) α} :
    oAny c ⊢ iprop((∀ v, oAny c -∗ wp frame (wpE (defs₀ (F := F)) 𝒱₀ (c : Thread nD τ) none) Set.univ (k v) Q)
        -∗ wp frame (wpE (defs₀ (F := F)) 𝒱₀ (c : Thread nD τ) none) Set.univ (.op (.load oM (Rect.unit (s := S64x512) ![0, 0] S64x512.size inb).toLoadRect hl) k) Q) := by
  iintro ⟨%g, H⟩ Hk
  iapply (wp_load 𝒱₀ (c : Thread nD τ) none Set.univ (m := oM) (f := g) (Finset.subset_univ _)) $$ [H]
  · iexact H
  iintro H
  iapply Hk
  iexists g; iexact H

/-- Storing the result. -/
theorem step_oput {α : Type} {Q : α → sProp 𝕄} {inb : ∀ a, (![0, 0] : Fin 2 → ℕ) a + S64x512.size a ≤ S64x512.size a} {X : Vec F S64x512 .f32} {hx hm}
    (hX : X = outAt m ρ c) {k : PUnit → Prog (TpuEff nD τ sig (Elt F) Λ₀ .tc) α} :
    oAny c ⊢ iprop((oAt m ρ c -∗ wp frame (wpE (defs₀ (F := F)) 𝒱₀ (c : Thread nD τ) none) Set.univ (k ⟨⟩) Q)
        -∗ wp frame (wpE (defs₀ (F := F)) 𝒱₀ (c : Thread nD τ) none) Set.univ (.op (.store oM (Rect.unit (s := S64x512) ![0, 0] S64x512.size inb) X Finset.univ hx hm) k) Q) := by
  subst hX
  iintro ⟨%g, H⟩ Hk
  iapply (wp_store 𝒱₀ (c : Thread nD τ) none Set.univ (m := oM) (r := Rect.unit (s := S64x512) ![0, 0] S64x512.size inb) (Mk := Finset.univ) (f := g) (Finset.subset_univ _)) $$ [H]
  · iexact H
  rw [show ((oM : Memref sig .tc .vmem S64x512 .f32).access (Rect.unit (s := S64x512) ![0, 0] S64x512.size inb) : View sig .tc _ _ _).write (Elt F) g (outAt m ρ c) Finset.univ = outAt m ρ c
      from Memref.write_access_unit_zero_univ (Elt F) cc0_stg3_0 zero2 _ g _]
  iintro H
  iapply Hk; iexact H

end Steps

end Cert.Exchange

end
-- ==== Proof.Pieces.lean ====
/-
# The kernel's body

The body is cut into pieces of straight-line code. Each theorem here follows one piece: what the device holds before it,
and what after. A device's seven slots are followed one after the other: it offers its slots (`offer`), stores and sends
its contributions (`copy`), waits for what is sent to it, adds up, and waits until its own copies have been read.
-/
module

public import proofs.«01_k».proof.Proof.Steps

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What offering slot `k` takes: the duty at the device that will write there, and the slot. -/
def offer (c : Dev nD) (k : Fin 7) : sProp 𝕄 := iprop(duty (back c k) (kc k) ∗ held c (slotM k))
/-- What sending copy `k` takes: the wait for credit, the duties at both ends, and the position at the send semaphore. -/
def copy (c : Dev nD) (k : Fin 7) : sProp 𝕄 :=
  iprop(waiter c (kc k) ∗ atPos ER (kcell (c, ks k)) 0 ∅ 0 ∗ duty c (ks k) ∗ duty (peer c k) (kr k))
/-- What is left of it: the wait until the copy has been read, and the credit semaphore at zero. -/
def copied (c : Dev nD) (k : Fin 7) : sProp 𝕄 := iprop(waiter c (ks k) ∗ atZero c (kc k))
/-- Slot `k`, filled, and its receive semaphore at zero. -/
def filled (c : Dev nD) (k : Fin 7) : sProp 𝕄 := iprop(heldAt c (slotM k) (contrib m ρ (back c k) c) ∗ atZero c (kr k))
/-- The rows of copy `k` back, and its send semaphore at zero. -/
def returned (c : Dev nD) (k : Fin 7) : sProp 𝕄 := iprop(held c (chunkM (peer c k)) ∗ atZero c (ks k))

section Body

variable (K : Dev nD × CK → ℕ) (c : Dev nD)

/-- Offering slot `k`. -/
theorem step_offer {α : Type} {Q : α → sProp 𝕄} (k : Fin 7) {s : Sem sig} (hs : crdS k = s) {n : ℕ} (hn : 1 = n) {j : ℕ} (hj : slotOf j = k)
    {kt : PUnit → Prog (TpuEff nD τ sig (Elt F) Λ₀ .tc) α} :
    iprop(known m ρ K ∗ owing c (oweC c (j + 1)) ∗ offer c k)
      ⊢ iprop((owing c (oweC c j) -∗ wp frame (wpE (defs₀ (F := F)) 𝒱₀ (c : Thread nD τ) none) Set.univ (kt ⟨⟩) Q)
          -∗ wp frame (wpE (defs₀ (F := F)) 𝒱₀ (c : Thread nD τ) none) Set.univ (.op (.semSignal (back c k, .tc) s n) kt) Q) := by
  subst hn hs hj
  unfold offer
  iintro ⟨HK, HO, Ht, Hs⟩ Hk
  iapply (step_signal m ρ K c (back c (slotOf j)) (kc (slotOf j)) rfl rfl (oweC c j)) $$ [HK HO Ht Hs]
  · isplitl [HK]; · iexact HK
    isplitl [HO]; · iexact HO
    isplitl [Ht]; · iexact Ht
    dsimp only [pay]; rw [peer_back]; iexact Hs
  iexact Hk

set_option maxHeartbeats 1000000 in
/-- The barrier, and the first offer. -/
theorem part1 {Q : _ → sProp 𝕄} :
    iprop(known m ρ K ∗ owing c (O₀ c) ∗ duty c kb ∗ waiter c kb ∗ offer c 6)
      ⊢ iprop((∀ w, (owing c (oweC c 6) ∗ atZero c kb) -∗ Q ⟨c, devw c, w⟩)
        -∗ wp frame (wpE (defs₀ (F := F)) 𝒱₀ (c : Thread nD τ) none) Set.univ
            (k0_part1 xM (Memref.isWhole_whole _) iM (Memref.isWhole_whole _) wM (Memref.isWhole_whole _) oM (Memref.isWhole_whole _)
              pM (Memref.isWhole_whole _) gM (Memref.isWhole_whole _) vM (Memref.isWhole_whole _) cc0_scratch3 cc0_scratch4 cc0_scratch5) Q) := by
  simp only [k0_part1_eq_skeleton]; unfold k0_part1_skel
  simp only [semSignalHereWord, semSignalWord, semWaitWord, Prog.lift, Prog.bind_op, Prog.bind_ret, Prog.pure_eq_ret, wp_deviceId]
  unfold devw
  iintro ⟨#HK, HO, Hd, Hb, HF6⟩ Hk
  simp only [dev1_eq c]
  iapply (step_signal m ρ K c c kb rfl (by decide) (oweC c 7)) $$ [HO Hd]
  · isplitr; · iexact HK
    isplitl [HO]; · iexact HO
    isplitl [Hd]; · iexact Hd
    dsimp only [pay]; iempintro
  iintro HO
  iapply (step_barrier m ρ K c (by decide)) $$ [HO Hb]
  · isplitr; · iexact HK
    isplitl [HO]; · iexact HO
    iexact Hb
  iintro ⟨HO, Hz⟩
  iapply (step_offer m ρ K c 6 (j := 6) rfl (by decide) rfl) $$ [HO HF6]
  · isplitr; · iexact HK
    isplitl [HO]; · iexact HO
    iexact HF6
  iintro HO
  rw [wp_ret]; imodintro
  iapply Hk
  isplitl [HO]; · iexact HO
  iexact Hz

set_option maxHeartbeats 1000000 in
/-- Three more offers. -/
theorem part2 (w : BitVec 32) {Q : _ → sProp 𝕄} :
    iprop(known m ρ K ∗ owing c (oweC c 6) ∗ offer c 5 ∗ offer c 4 ∗ offer c 3)
      ⊢ iprop(((owing c (oweC c 3)) -∗ Q ⟨⟩)
        -∗ wp frame (wpE (defs₀ (F := F)) 𝒱₀ (c : Thread nD τ) none) Set.univ
            (k0_part2 xM (Memref.isWhole_whole _) iM (Memref.isWhole_whole _) wM (Memref.isWhole_whole _) oM (Memref.isWhole_whole _)
              pM (Memref.isWhole_whole _) gM (Memref.isWhole_whole _) vM (Memref.isWhole_whole _) cc0_scratch3 cc0_scratch4 cc0_scratch5 c (devw c) w) Q) := by
  simp only [k0_part2_eq_skeleton]; unfold k0_part2_skel
  simp only [semSignalHereWord, semSignalWord, semWaitWord, Prog.lift, Prog.bind_op, Prog.bind_ret, Prog.pure_eq_ret, wp_deviceId]
  iintro ⟨#HK, HO, HF5, HF4, HF3⟩ Hk
  simp only [dev2_eq c, dev3_eq c, dev4_eq c]
  iapply (step_offer m ρ K c 5 (j := 5) rfl (by decide) rfl) $$ [HO HF5]
  · isplitr; · iexact HK
    isplitl [HO]; · iexact HO
    iexact HF5
  iintro HO
  iapply (step_offer m ρ K c 4 (j := 4) rfl (by decide) rfl) $$ [HO HF4]
  · isplitr; · iexact HK
    isplitl [HO]; · iexact HO
    iexact HF4
  iintro HO
  iapply (step_offer m ρ K c 3 (j := 3) rfl (by decide) rfl) $$ [HO HF3]
  · isplitr; · iexact HK
    isplitl [HO]; · iexact HO
    iexact HF3
  iintro HO
  rw [wp_ret]; imodintro
  iapply Hk
  iexact HO

set_option maxHeartbeats 1000000 in
/-- Two more offers. -/
theorem part3 {Q : _ → sProp 𝕄} :
    iprop(known m ρ K ∗ owing c (oweC c 3) ∗ offer c 2 ∗ offer c 1)
      ⊢ iprop((∀ w₁ w₂ w₃ w₄, (owing c (oweC c 1)) -∗ Q ⟨w₁, w₂, w₃, w₄⟩)
        -∗ wp frame (wpE (defs₀ (F := F)) 𝒱₀ (c : Thread nD τ) none) Set.univ
            (k0_part3 xM (Memref.isWhole_whole _) iM (Memref.isWhole_whole _) wM (Memref.isWhole_whole _) oM (Memref.isWhole_whole _)
              pM (Memref.isWhole_whole _) gM (Memref.isWhole_whole _) vM (Memref.isWhole_whole _) cc0_scratch3 cc0_scratch4 cc0_scratch5 c (devw c)) Q) := by
  simp only [k0_part3_eq_skeleton]; unfold k0_part3_skel
  simp only [semSignalHereWord, semSignalWord, semWaitWord, Prog.lift, Prog.bind_op, Prog.bind_ret, Prog.pure_eq_ret, wp_deviceId]
  iintro ⟨#HK, HO, HF2, HF1⟩ Hk
  simp only [dev5_eq c, dev6_eq c]
  iapply (step_offer m ρ K c 2 (j := 2) rfl (by decide) rfl) $$ [HO HF2]
  · isplitr; · iexact HK
    isplitl [HO]; · iexact HO
    iexact HF2
  iintro HO
  iapply (step_offer m ρ K c 1 (j := 1) rfl (by decide) rfl) $$ [HO HF1]
  · isplitr; · iexact HK
    isplitl [HO]; · iexact HO
    iexact HF1
  iintro HO
  rw [wp_ret]; imodintro
  iapply Hk
  iexact HO

set_option maxHeartbeats 1000000 in
/-- The last offer, and the gates. -/
theorem part4 (w₁ w₂ : BitVec 32) (w₃ : BitVec 1) (w₄ : BitVec 32) {Q : _ → sProp 𝕄} :
    iprop(known m ρ K ∗ owing c (oweC c 1) ∗ offer c 0 ∗ iAt m ρ c ∗ gAny c)
      ⊢ iprop(((owing c (oweR c 7) ∗ iAt m ρ c ∗ gAt m ρ c) -∗ Q ⟨⟩)
        -∗ wp frame (wpE (defs₀ (F := F)) 𝒱₀ (c : Thread nD τ) none) Set.univ
            (k0_part4 xM (Memref.isWhole_whole _) iM (Memref.isWhole_whole _) wM (Memref.isWhole_whole _) oM (Memref.isWhole_whole _)
              pM (Memref.isWhole_whole _) gM (Memref.isWhole_whole _) vM (Memref.isWhole_whole _) cc0_scratch3 cc0_scratch4 cc0_scratch5 c (devw c) w₁ w₂ w₃ w₄) Q) := by
  simp only [k0_part4_eq_skeleton]; unfold k0_part4_skel
  simp only [semSignalHereWord, semSignalWord, semWaitWord, Prog.lift, Prog.bind_op, Prog.bind_ret, Prog.pure_eq_ret, wp_deviceId]
  iintro ⟨#HK, HO, HF0, Hi, Hg⟩ Hk
  simp only [dev7_eq c]
  iapply (step_offer m ρ K c 0 (j := 0) rfl (by decide) rfl) $$ [HO HF0]
  · isplitr; · iexact HK
    isplitl [HO]; · iexact HO
    iexact HF0
  iintro HO
  iapply (step_route m ρ c) $$ Hi; iintro Hi
  iapply (step_gpeek c) $$ Hg; iintro %_ Hg
  iapply (step_gput m ρ c rfl) $$ Hg; iintro Hg
  rw [wp_ret]; imodintro
  iapply Hk
  isplitl [HO]; · iexact HO
  isplitl [Hi]; · iexact Hi
  iexact Hg

set_option maxHeartbeats 1000000 in
/-- The experts, and the first contribution. -/
theorem part5 {Q : _ → sProp 𝕄} :
    iprop(known m ρ K ∗ wAt m ρ c ∗ xAt m ρ c ∗ gAt m ρ c ∗ held c (chunkM (peer c 0)))
      ⊢ iprop((∀ w, (wAt m ρ c ∗ xAt m ρ c ∗ gAt m ρ c ∗ heldAt c (chunkM (peer c 0)) (contrib m ρ c (peer c 0))) -∗ Q ⟨k0_pay2 (w0 m ρ c), k0_pay3 (w1 m ρ c), w⟩)
        -∗ wp frame (wpE (defs₀ (F := F)) 𝒱₀ (c : Thread nD τ) none) Set.univ
            (k0_part5 xM (Memref.isWhole_whole _) iM (Memref.isWhole_whole _) wM (Memref.isWhole_whole _) oM (Memref.isWhole_whole _)
              pM (Memref.isWhole_whole _) gM (Memref.isWhole_whole _) vM (Memref.isWhole_whole _) cc0_scratch3 cc0_scratch4 cc0_scratch5 c (devw c)) Q) := by
  simp only [k0_part5_eq_skeleton]; unfold k0_part5_skel
  simp only [semSignalHereWord, semSignalWord, semWaitWord, Prog.lift, Prog.bind_op, Prog.bind_ret, Prog.pure_eq_ret, wp_deviceId]
  iintro ⟨#HK, Hw, Hx, Hg, HP0⟩ Hk
  iapply (step_w0 m ρ c) $$ Hw; iintro Hw
  iapply (step_w1 m ρ c) $$ Hw; iintro Hw
  iapply (step_x m ρ c (peer c 0) (off1_eq c 0)) $$ Hx; iintro Hx
  iapply (step_g m ρ c (peer c 0) (off2_eq c 0)) $$ Hg; iintro Hg
  iapply (step_peek c (peer c 0) (off3_eq c 0)) $$ HP0; iintro %_ HP0
  iapply (step_put c (peer c 0) (off3_eq c 0)) $$ HP0; iintro HP0
  rw [wp_ret]; imodintro
  iapply Hk
  isplitl [Hw]; · iexact Hw
  isplitl [Hx]; · iexact Hx
  isplitl [Hg]; · iexact Hg
  iexact HP0

set_option maxHeartbeats 1000000 in
/-- The first copy; the rows of the second. -/
theorem part6 (w : BitVec 32) {Q : _ → sProp 𝕄} :
    iprop(known m ρ K ∗ owing c (oweR c 7) ∗ copy c 0 ∗ heldAt c (chunkM (peer c 0)) (contrib m ρ c (peer c 0)) ∗ xAt m ρ c ∗ gAt m ρ c)
      ⊢ iprop((∀ w₁ w₂, (owing c (oweR c 6) ∗ copied c 0 ∗ xAt m ρ c ∗ gAt m ρ c) -∗ Q ⟨w₁, w₂, k0_pay6 (xrows m ρ c (peer c 1)) (grows m ρ c (peer c 1)), k0_pay7 (xrows m ρ c (peer c 1)) (grows m ρ c (peer c 1)), constant S64x512 .f32 0x00000000#32⟩)
        -∗ wp frame (wpE (defs₀ (F := F)) 𝒱₀ (c : Thread nD τ) none) Set.univ
            (k0_part6 xM (Memref.isWhole_whole _) iM (Memref.isWhole_whole _) wM (Memref.isWhole_whole _) oM (Memref.isWhole_whole _)
              pM (Memref.isWhole_whole _) gM (Memref.isWhole_whole _) vM (Memref.isWhole_whole _) cc0_scratch3 cc0_scratch4 cc0_scratch5 c (devw c) w) Q) := by
  simp only [k0_part6_eq_skeleton]; unfold k0_part6_skel
  simp only [semSignalHereWord, semSignalWord, semWaitWord, Prog.lift, Prog.bind_op, Prog.bind_ret, Prog.pure_eq_ret, wp_deviceId]
  iintro ⟨#HK, HO, HC0, HP0, Hx, Hg⟩ Hk
  unfold copy; icases HC0 with ⟨Hc, Ha, Ht, Hu⟩
  iapply (step_credit m ρ K c 0 rfl (by decide) 7) $$ [HO Hc]
  · isplitr; · iexact HK
    isplitl [HO]; · iexact HO
    iexact Hc
  iintro ⟨HO, HZ, HS⟩
  iapply (step_send m ρ K c 0 (j := 6) rfl (dev8_eq c) (off4_eq c 0) rfl rfl rfl rfl) $$ [HO HP0 HS Ha Ht Hu]
  · isplitr; · iexact HK
    isplitl [HO]; · iexact HO
    isplitl [HP0]; · iexact HP0
    isplitl [HS]; · iexact HS
    isplitl [Ha]; · iexact Ha
    isplitl [Ht]; · iexact Ht
    iexact Hu
  iintro ⟨HO, HW0⟩
  ihave HC0 : copied c 0 $$ [HW0 HZ]
  · unfold copied; isplitl [HW0] <;> iassumption
  iapply (step_x m ρ c (peer c 1) (off1_eq c 1)) $$ Hx; iintro Hx
  iapply (step_g m ρ c (peer c 1) (off2_eq c 1)) $$ Hg; iintro Hg
  rw [wp_ret]; imodintro
  iapply Hk
  isplitl [HO]; · iexact HO
  isplitl [HC0]; · iexact HC0
  isplitl [Hx]; · iexact Hx
  iexact Hg

set_option maxHeartbeats 1000000 in
/-- The second contribution and copy; a load for the third. -/
theorem part7 (w₁ w₂ : BitVec 32) {Q : _ → sProp 𝕄} :
    iprop(known m ρ K ∗ owing c (oweR c 6) ∗ copy c 1 ∗ held c (chunkM (peer c 1)) ∗ xAt m ρ c)
      ⊢ iprop((∀ w₃ w₄ w₅, (owing c (oweR c 5) ∗ copied c 1 ∗ xAt m ρ c) -∗ Q ⟨w₃, w₄, w₅, xrows m ρ c (peer c 2)⟩)
        -∗ wp frame (wpE (defs₀ (F := F)) 𝒱₀ (c : Thread nD τ) none) Set.univ
            (k0_part7 xM (Memref.isWhole_whole _) iM (Memref.isWhole_whole _) wM (Memref.isWhole_whole _) oM (Memref.isWhole_whole _)
              pM (Memref.isWhole_whole _) gM (Memref.isWhole_whole _) vM (Memref.isWhole_whole _) cc0_scratch3 cc0_scratch4 cc0_scratch5 c (devw c) (k0_pay2 (w0 m ρ c)) (k0_pay3 (w1 m ρ c)) w₁ w₂
              (k0_pay6 (xrows m ρ c (peer c 1)) (grows m ρ c (peer c 1))) (k0_pay7 (xrows m ρ c (peer c 1)) (grows m ρ c (peer c 1))) (constant S64x512 .f32 0x00000000#32)) Q) := by
  simp only [k0_part7_eq_skeleton]; unfold k0_part7_skel
  simp only [semSignalHereWord, semSignalWord, semWaitWord, Prog.lift, Prog.bind_op, Prog.bind_ret, Prog.pure_eq_ret, wp_deviceId]
  iintro ⟨#HK, HO, HC1, HP1, Hx⟩ Hk
  iapply (step_peek c (peer c 1) (off3_eq c 1)) $$ HP1; iintro %_ HP1
  iapply (step_put c (peer c 1) (off3_eq c 1)) $$ HP1; iintro HP1
  unfold copy; icases HC1 with ⟨Hc, Ha, Ht, Hu⟩
  iapply (step_credit m ρ K c 1 rfl (by decide) 6) $$ [HO Hc]
  · isplitr; · iexact HK
    isplitl [HO]; · iexact HO
    iexact Hc
  iintro ⟨HO, HZ, HS⟩
  iapply (step_send m ρ K c 1 (j := 5) rfl (dev9_eq c) (off4_eq c 1) rfl rfl rfl rfl) $$ [HO HP1 HS Ha Ht Hu]
  · isplitr; · iexact HK
    isplitl [HO]; · iexact HO
    isplitl [HP1]; · iexact HP1
    isplitl [HS]; · iexact HS
    isplitl [Ha]; · iexact Ha
    isplitl [Ht]; · iexact Ht
    iexact Hu
  iintro ⟨HO, HW1⟩
  ihave HC1 : copied c 1 $$ [HW1 HZ]
  · unfold copied; isplitl [HW1] <;> iassumption
  iapply (step_x m ρ c (peer c 2) (off1_eq c 2)) $$ Hx; iintro Hx
  rw [wp_ret]; imodintro
  iapply Hk
  isplitl [HO]; · iexact HO
  isplitl [HC1]; · iexact HC1
  iexact Hx

set_option maxHeartbeats 1000000 in
/-- The third contribution and copy. -/
theorem part8 (w₁ w₂ w₃ : BitVec 32) {Q : _ → sProp 𝕄} :
    iprop(known m ρ K ∗ owing c (oweR c 5) ∗ copy c 2 ∗ held c (chunkM (peer c 2)) ∗ gAt m ρ c)
      ⊢ iprop((∀ w₄ w₅ w₆ w₇, (owing c (oweR c 4) ∗ copied c 2 ∗ gAt m ρ c) -∗ Q ⟨w₄, w₅, w₆, w₇, 0#32⟩)
        -∗ wp frame (wpE (defs₀ (F := F)) 𝒱₀ (c : Thread nD τ) none) Set.univ
            (k0_part8 xM (Memref.isWhole_whole _) iM (Memref.isWhole_whole _) wM (Memref.isWhole_whole _) oM (Memref.isWhole_whole _)
              pM (Memref.isWhole_whole _) gM (Memref.isWhole_whole _) vM (Memref.isWhole_whole _) cc0_scratch3 cc0_scratch4 cc0_scratch5 c (devw c) (k0_pay2 (w0 m ρ c)) (k0_pay3 (w1 m ρ c)) w₁ w₂ w₃ (xrows m ρ c (peer c 2))) Q) := by
  simp only [k0_part8_eq_skeleton]; unfold k0_part8_skel
  simp only [semSignalHereWord, semSignalWord, semWaitWord, Prog.lift, Prog.bind_op, Prog.bind_ret, Prog.pure_eq_ret, wp_deviceId]
  iintro ⟨#HK, HO, HC2, HP2, Hg⟩ Hk
  iapply (step_g m ρ c (peer c 2) (off2_eq c 2)) $$ Hg; iintro Hg
  iapply (step_peek c (peer c 2) (off3_eq c 2)) $$ HP2; iintro %_ HP2
  iapply (step_put c (peer c 2) (off3_eq c 2)) $$ HP2; iintro HP2
  unfold copy; icases HC2 with ⟨Hc, Ha, Ht, Hu⟩
  iapply (step_credit m ρ K c 2 rfl (by decide) 5) $$ [HO Hc]
  · isplitr; · iexact HK
    isplitl [HO]; · iexact HO
    iexact Hc
  iintro ⟨HO, HZ, HS⟩
  iapply (step_send m ρ K c 2 (j := 4) rfl (dev10_eq c) (off4_eq c 2) rfl rfl rfl rfl) $$ [HO HP2 HS Ha Ht Hu]
  · isplitr; · iexact HK
    isplitl [HO]; · iexact HO
    isplitl [HP2]; · iexact HP2
    isplitl [HS]; · iexact HS
    isplitl [Ha]; · iexact Ha
    isplitl [Ht]; · iexact Ht
    iexact Hu
  iintro ⟨HO, HW2⟩
  ihave HC2 : copied c 2 $$ [HW2 HZ]
  · unfold copied; isplitl [HW2] <;> iassumption
  rw [wp_ret]; imodintro
  iapply Hk
  isplitl [HO]; · iexact HO
  isplitl [HC2]; · iexact HC2
  iexact Hg

set_option maxHeartbeats 1000000 in
/-- The fourth contribution and copy. -/
theorem part9 (w₁ w₂ : BitVec 32) (w₃ w₄ : BitVec 1) (w₅ : BitVec 32) {Q : _ → sProp 𝕄} :
    iprop(known m ρ K ∗ owing c (oweR c 4) ∗ copy c 3 ∗ held c (chunkM (peer c 3)) ∗ xAt m ρ c ∗ gAt m ρ c)
      ⊢ iprop((∀ w, (owing c (oweR c 3) ∗ copied c 3 ∗ xAt m ρ c ∗ gAt m ρ c) -∗ Q ⟨w, 5#32⟩)
        -∗ wp frame (wpE (defs₀ (F := F)) 𝒱₀ (c : Thread nD τ) none) Set.univ
            (k0_part9 xM (Memref.isWhole_whole _) iM (Memref.isWhole_whole _) wM (Memref.isWhole_whole _) oM (Memref.isWhole_whole _)
              pM (Memref.isWhole_whole _) gM (Memref.isWhole_whole _) vM (Memref.isWhole_whole _) cc0_scratch3 cc0_scratch4 cc0_scratch5 c (k0_pay2 (w0 m ρ c)) (k0_pay3 (w1 m ρ c)) w₁ w₂ w₃ w₄ w₅) Q) := by
  simp only [k0_part9_eq_skeleton]; unfold k0_part9_skel
  simp only [semSignalHereWord, semSignalWord, semWaitWord, Prog.lift, Prog.bind_op, Prog.bind_ret, Prog.pure_eq_ret, wp_deviceId]
  iintro ⟨#HK, HO, HC3, HP3, Hx, Hg⟩ Hk
  iapply (step_x m ρ c (peer c 3) (off1_eq c 3)) $$ Hx; iintro Hx
  iapply (step_g m ρ c (peer c 3) (off2_eq c 3)) $$ Hg; iintro Hg
  iapply (step_peek c (peer c 3) (off3_eq c 3)) $$ HP3; iintro %_ HP3
  iapply (step_put c (peer c 3) (off3_eq c 3)) $$ HP3; iintro HP3
  unfold copy; icases HC3 with ⟨Hc, Ha, Ht, Hu⟩
  iapply (step_credit m ρ K c 3 rfl (by decide) 4) $$ [HO Hc]
  · isplitr; · iexact HK
    isplitl [HO]; · iexact HO
    iexact Hc
  iintro ⟨HO, HZ, HS⟩
  iapply (step_send m ρ K c 3 (j := 3) rfl (dev11_eq c) (off4_eq c 3) rfl rfl rfl rfl) $$ [HO HP3 HS Ha Ht Hu]
  · isplitr; · iexact HK
    isplitl [HO]; · iexact HO
    isplitl [HP3]; · iexact HP3
    isplitl [HS]; · iexact HS
    isplitl [Ha]; · iexact Ha
    isplitl [Ht]; · iexact Ht
    iexact Hu
  iintro ⟨HO, HW3⟩
  ihave HC3 : copied c 3 $$ [HW3 HZ]
  · unfold copied; isplitl [HW3] <;> iassumption
  rw [wp_ret]; imodintro
  iapply Hk
  isplitl [HO]; · iexact HO
  isplitl [HC3]; · iexact HC3
  isplitl [Hx]; · iexact Hx
  iexact Hg

set_option maxHeartbeats 1000000 in
/-- The fifth contribution, and its credit. -/
theorem part10 (w : BitVec 32) {Q : _ → sProp 𝕄} :
    iprop(known m ρ K ∗ owing c (oweR c 3) ∗ copy c 4 ∗ held c (chunkM (peer c 4)) ∗ xAt m ρ c ∗ gAt m ρ c)
      ⊢ iprop((∀ w', (owing c (oweR c 3) ∗ (atPos ER (kcell (c, ks 4)) 0 ∅ 0 ∗ duty c (ks 4) ∗ duty (peer c 4) (kr 4) ∗ atZero c (kc 4) ∗ held (peer c 4) (slotM 4)) ∗ heldAt c (chunkM (peer c 4)) (contrib m ρ c (peer c 4)) ∗ xAt m ρ c ∗ gAt m ρ c) -∗ Q w')
        -∗ wp frame (wpE (defs₀ (F := F)) 𝒱₀ (c : Thread nD τ) none) Set.univ
            (k0_part10 xM (Memref.isWhole_whole _) iM (Memref.isWhole_whole _) wM (Memref.isWhole_whole _) oM (Memref.isWhole_whole _)
              pM (Memref.isWhole_whole _) gM (Memref.isWhole_whole _) vM (Memref.isWhole_whole _) cc0_scratch3 cc0_scratch4 cc0_scratch5 c (devw c) (k0_pay2 (w0 m ρ c)) (k0_pay3 (w1 m ρ c)) w) Q) := by
  simp only [k0_part10_eq_skeleton]; unfold k0_part10_skel
  simp only [semSignalHereWord, semSignalWord, semWaitWord, Prog.lift, Prog.bind_op, Prog.bind_ret, Prog.pure_eq_ret, wp_deviceId]
  iintro ⟨#HK, HO, HC4, HP4, Hx, Hg⟩ Hk
  iapply (step_x m ρ c (peer c 4) (off1_eq c 4)) $$ Hx; iintro Hx
  iapply (step_g m ρ c (peer c 4) (off2_eq c 4)) $$ Hg; iintro Hg
  iapply (step_peek c (peer c 4) (off3_eq c 4)) $$ HP4; iintro %_ HP4
  iapply (step_put c (peer c 4) (off3_eq c 4)) $$ HP4; iintro HP4
  unfold copy; icases HC4 with ⟨Hc, Ha, Ht, Hu⟩
  iapply (step_credit m ρ K c 4 rfl (by decide) 3) $$ [HO Hc]
  · isplitr; · iexact HK
    isplitl [HO]; · iexact HO
    iexact Hc
  iintro ⟨HO, HZ, HS⟩
  rw [wp_ret]; imodintro
  iapply Hk
  isplitl [HO]; · iexact HO
  isplitl [Ha Ht Hu HZ HS]
  · isplitl [Ha]; · iexact Ha
    isplitl [Ht]; · iexact Ht
    isplitl [Hu]; · iexact Hu
    isplitl [HZ] <;> iassumption
  isplitl [HP4]; · iexact HP4
  isplitl [Hx]; · iexact Hx
  iexact Hg

set_option maxHeartbeats 1000000 in
/-- The fifth copy, and the sixth contribution. -/
theorem part11 {Q : _ → sProp 𝕄} :
    iprop(known m ρ K ∗ owing c (oweR c 3) ∗ (atPos ER (kcell (c, ks 4)) 0 ∅ 0 ∗ duty c (ks 4) ∗ duty (peer c 4) (kr 4) ∗ atZero c (kc 4) ∗ held (peer c 4) (slotM 4)) ∗ heldAt c (chunkM (peer c 4)) (contrib m ρ c (peer c 4)) ∗ held c (chunkM (peer c 5)) ∗ xAt m ρ c ∗ gAt m ρ c)
      ⊢ iprop((∀ w, (owing c (oweR c 2) ∗ copied c 4 ∗ heldAt c (chunkM (peer c 5)) (contrib m ρ c (peer c 5)) ∗ xAt m ρ c ∗ gAt m ρ c) -∗ Q w)
        -∗ wp frame (wpE (defs₀ (F := F)) 𝒱₀ (c : Thread nD τ) none) Set.univ
            (k0_part11 xM (Memref.isWhole_whole _) iM (Memref.isWhole_whole _) wM (Memref.isWhole_whole _) oM (Memref.isWhole_whole _)
              pM (Memref.isWhole_whole _) gM (Memref.isWhole_whole _) vM (Memref.isWhole_whole _) cc0_scratch3 cc0_scratch4 cc0_scratch5 c (devw c) (k0_pay2 (w0 m ρ c)) (k0_pay3 (w1 m ρ c))) Q) := by
  simp only [k0_part11_eq_skeleton]; unfold k0_part11_skel
  simp only [semSignalHereWord, semSignalWord, semWaitWord, Prog.lift, Prog.bind_op, Prog.bind_ret, Prog.pure_eq_ret, wp_deviceId]
  iintro ⟨#HK, HO, ⟨Ha, Ht, Hu, HZ, HS⟩, HP4, HP5, Hx, Hg⟩ Hk
  iapply (step_send m ρ K c 4 (j := 2) rfl (dev12_eq c) (off4_eq c 4) rfl rfl rfl rfl) $$ [HO HP4 HS Ha Ht Hu]
  · isplitr; · iexact HK
    isplitl [HO]; · iexact HO
    isplitl [HP4]; · iexact HP4
    isplitl [HS]; · iexact HS
    isplitl [Ha]; · iexact Ha
    isplitl [Ht]; · iexact Ht
    iexact Hu
  iintro ⟨HO, HW4⟩
  ihave HC4 : copied c 4 $$ [HW4 HZ]
  · unfold copied; isplitl [HW4] <;> iassumption
  iapply (step_x m ρ c (peer c 5) (off1_eq c 5)) $$ Hx; iintro Hx
  iapply (step_g m ρ c (peer c 5) (off2_eq c 5)) $$ Hg; iintro Hg
  iapply (step_peek c (peer c 5) (off3_eq c 5)) $$ HP5; iintro %_ HP5
  iapply (step_put c (peer c 5) (off3_eq c 5)) $$ HP5; iintro HP5
  rw [wp_ret]; imodintro
  iapply Hk
  isplitl [HO]; · iexact HO
  isplitl [HC4]; · iexact HC4
  isplitl [HP5]; · iexact HP5
  isplitl [Hx]; · iexact Hx
  iexact Hg

set_option maxHeartbeats 1000000 in
/-- The sixth copy; the rows of the seventh. -/
theorem part12 (w : BitVec 32) {Q : _ → sProp 𝕄} :
    iprop(known m ρ K ∗ owing c (oweR c 2) ∗ copy c 5 ∗ heldAt c (chunkM (peer c 5)) (contrib m ρ c (peer c 5)) ∗ xAt m ρ c ∗ gAt m ρ c)
      ⊢ iprop((∀ w₁ w₂, (owing c (oweR c 1) ∗ copied c 5 ∗ xAt m ρ c ∗ gAt m ρ c) -∗ Q ⟨w₁, w₂, k0_pay14 (xrows m ρ c (peer c 6)) (grows m ρ c (peer c 6)), k0_pay15 (xrows m ρ c (peer c 6)) (grows m ρ c (peer c 6)), constant S64x512 .f32 0x00000000#32⟩)
        -∗ wp frame (wpE (defs₀ (F := F)) 𝒱₀ (c : Thread nD τ) none) Set.univ
            (k0_part12 xM (Memref.isWhole_whole _) iM (Memref.isWhole_whole _) wM (Memref.isWhole_whole _) oM (Memref.isWhole_whole _)
              pM (Memref.isWhole_whole _) gM (Memref.isWhole_whole _) vM (Memref.isWhole_whole _) cc0_scratch3 cc0_scratch4 cc0_scratch5 c (devw c) w) Q) := by
  simp only [k0_part12_eq_skeleton]; unfold k0_part12_skel
  simp only [semSignalHereWord, semSignalWord, semWaitWord, Prog.lift, Prog.bind_op, Prog.bind_ret, Prog.pure_eq_ret, wp_deviceId]
  iintro ⟨#HK, HO, HC5, HP5, Hx, Hg⟩ Hk
  unfold copy; icases HC5 with ⟨Hc, Ha, Ht, Hu⟩
  iapply (step_credit m ρ K c 5 rfl (by decide) 2) $$ [HO Hc]
  · isplitr; · iexact HK
    isplitl [HO]; · iexact HO
    iexact Hc
  iintro ⟨HO, HZ, HS⟩
  iapply (step_send m ρ K c 5 (j := 1) rfl (dev13_eq c) (off4_eq c 5) rfl rfl rfl rfl) $$ [HO HP5 HS Ha Ht Hu]
  · isplitr; · iexact HK
    isplitl [HO]; · iexact HO
    isplitl [HP5]; · iexact HP5
    isplitl [HS]; · iexact HS
    isplitl [Ha]; · iexact Ha
    isplitl [Ht]; · iexact Ht
    iexact Hu
  iintro ⟨HO, HW5⟩
  ihave HC5 : copied c 5 $$ [HW5 HZ]
  · unfold copied; isplitl [HW5] <;> iassumption
  iapply (step_x m ρ c (peer c 6) (off1_eq c 6)) $$ Hx; iintro Hx
  iapply (step_g m ρ c (peer c 6) (off2_eq c 6)) $$ Hg; iintro Hg
  rw [wp_ret]; imodintro
  iapply Hk
  isplitl [HO]; · iexact HO
  isplitl [HC5]; · iexact HC5
  isplitl [Hx]; · iexact Hx
  iexact Hg

set_option maxHeartbeats 1000000 in
/-- The seventh contribution and copy; the device's own rows. -/
theorem part13 (w₁ w₂ : BitVec 32) {Q : _ → sProp 𝕄} :
    iprop(known m ρ K ∗ owing c (oweR c 1) ∗ copy c 6 ∗ held c (chunkM (peer c 6)) ∗ xAt m ρ c ∗ gAt m ρ c)
      ⊢ iprop(((owing c 0 ∗ copied c 6 ∗ xAt m ρ c ∗ gAt m ρ c) -∗ Q (own m ρ c))
        -∗ wp frame (wpE (defs₀ (F := F)) 𝒱₀ (c : Thread nD τ) none) Set.univ
            (k0_part13 xM (Memref.isWhole_whole _) iM (Memref.isWhole_whole _) wM (Memref.isWhole_whole _) oM (Memref.isWhole_whole _)
              pM (Memref.isWhole_whole _) gM (Memref.isWhole_whole _) vM (Memref.isWhole_whole _) cc0_scratch3 cc0_scratch4 cc0_scratch5 c (devw c) (k0_pay2 (w0 m ρ c)) (k0_pay3 (w1 m ρ c)) w₁ w₂
              (k0_pay14 (xrows m ρ c (peer c 6)) (grows m ρ c (peer c 6))) (k0_pay15 (xrows m ρ c (peer c 6)) (grows m ρ c (peer c 6))) (constant S64x512 .f32 0x00000000#32)) Q) := by
  simp only [k0_part13_eq_skeleton]; unfold k0_part13_skel
  simp only [semSignalHereWord, semSignalWord, semWaitWord, Prog.lift, Prog.bind_op, Prog.bind_ret, Prog.pure_eq_ret, wp_deviceId]
  unfold own
  iintro ⟨#HK, HO, HC6, HP6, Hx, Hg⟩ Hk
  iapply (step_peek c (peer c 6) (off3_eq c 6)) $$ HP6; iintro %_ HP6
  iapply (step_put c (peer c 6) (off3_eq c 6)) $$ HP6; iintro HP6
  unfold copy; icases HC6 with ⟨Hc, Ha, Ht, Hu⟩
  iapply (step_credit m ρ K c 6 rfl (by decide) 1) $$ [HO Hc]
  · isplitr; · iexact HK
    isplitl [HO]; · iexact HO
    iexact Hc
  iintro ⟨HO, HZ, HS⟩
  iapply (step_send m ρ K c 6 (j := 0) rfl (dev14_eq c) (off4_eq c 6) rfl rfl rfl rfl) $$ [HO HP6 HS Ha Ht Hu]
  · isplitr; · iexact HK
    isplitl [HO]; · iexact HO
    isplitl [HP6]; · iexact HP6
    isplitl [HS]; · iexact HS
    isplitl [Ha]; · iexact Ha
    isplitl [Ht]; · iexact Ht
    iexact Hu
  iintro ⟨HO, HW6⟩
  ihave HC6 : copied c 6 $$ [HW6 HZ]
  · unfold copied; isplitl [HW6] <;> iassumption
  iapply (step_x m ρ c c (k0_off5_eq c)) $$ Hx; iintro Hx
  iapply (step_g m ρ c c (k0_off6_eq c)) $$ Hg; iintro Hg
  rw [wp_ret]; imodintro
  iapply Hk
  isplitl [HO]; · iexact HO
  isplitl [HC6]; · iexact HC6
  isplitl [Hx]; · iexact Hx
  iexact Hg

set_option maxHeartbeats 1000000 in
/-- The first three receipts. -/
theorem part14 (w₁ w₂ w₃ : BitVec 32) (a : FVec F S64x512 .f32) {Q : _ → sProp 𝕄} :
    iprop(known m ρ K ∗ owing c 0 ∗ waiter c (kr 0) ∗ waiter c (kr 1) ∗ waiter c (kr 2))
      ⊢ iprop(((owing c 0 ∗ filled m ρ c 0 ∗ filled m ρ c 1 ∗ filled m ρ c 2) -∗ Q (k0_pay18 a (landed m ρ c 0) (landed m ρ c 1)))
        -∗ wp frame (wpE (defs₀ (F := F)) 𝒱₀ (c : Thread nD τ) none) Set.univ
            (k0_part14 xM (Memref.isWhole_whole _) iM (Memref.isWhole_whole _) wM (Memref.isWhole_whole _) oM (Memref.isWhole_whole _)
              pM (Memref.isWhole_whole _) gM (Memref.isWhole_whole _) vM (Memref.isWhole_whole _) cc0_scratch3 cc0_scratch4 cc0_scratch5 c w₁ w₂ w₃ a) Q) := by
  simp only [k0_part14_eq_skeleton]; unfold k0_part14_skel
  simp only [semSignalHereWord, semSignalWord, semWaitWord, Prog.lift, Prog.bind_op, Prog.bind_ret, Prog.pure_eq_ret, wp_deviceId]
  iintro ⟨#HK, HO, HR0, HR1, HR2⟩ Hk
  iapply (step_recv m ρ K c 0 rfl rfl) $$ [HO HR0]
  · isplitr; · iexact HK
    isplitl [HO]; · iexact HO
    iexact HR0
  iintro ⟨HO, HZ0, HV0⟩
  iapply (step_landed m ρ c 0 rfl) $$ HV0; iintro HV0
  ihave HV0 : filled m ρ c 0 $$ [HV0 HZ0]
  · unfold filled; isplitl [HV0] <;> iassumption
  iapply (step_recv m ρ K c 1 rfl rfl) $$ [HO HR1]
  · isplitr; · iexact HK
    isplitl [HO]; · iexact HO
    iexact HR1
  iintro ⟨HO, HZ1, HV1⟩
  iapply (step_landed m ρ c 1 rfl) $$ HV1; iintro HV1
  ihave HV1 : filled m ρ c 1 $$ [HV1 HZ1]
  · unfold filled; isplitl [HV1] <;> iassumption
  iapply (step_recv m ρ K c 2 rfl rfl) $$ [HO HR2]
  · isplitr; · iexact HK
    isplitl [HO]; · iexact HO
    iexact HR2
  iintro ⟨HO, HZ2, HV2⟩
  ihave HV2 : filled m ρ c 2 $$ [HV2 HZ2]
  · unfold filled; isplitl [HV2] <;> iassumption
  rw [wp_ret]; imodintro
  iapply Hk
  isplitl [HO]; · iexact HO
  isplitl [HV0]; · iexact HV0
  isplitl [HV1]; · iexact HV1
  iexact HV2

set_option maxHeartbeats 1000000 in
/-- Two more receipts. -/
theorem part15 (w₁ w₂ w₃ : BitVec 32) (a : FVec F S64x512 .f32) {Q : _ → sProp 𝕄} :
    iprop(known m ρ K ∗ owing c 0 ∗ filled m ρ c 2 ∗ waiter c (kr 3) ∗ waiter c (kr 4))
      ⊢ iprop(((owing c 0 ∗ filled m ρ c 2 ∗ filled m ρ c 3 ∗ filled m ρ c 4) -∗ Q (k0_pay19 a (landed m ρ c 2) (landed m ρ c 3) (landed m ρ c 4)))
        -∗ wp frame (wpE (defs₀ (F := F)) 𝒱₀ (c : Thread nD τ) none) Set.univ
            (k0_part15 xM (Memref.isWhole_whole _) iM (Memref.isWhole_whole _) wM (Memref.isWhole_whole _) oM (Memref.isWhole_whole _)
              pM (Memref.isWhole_whole _) gM (Memref.isWhole_whole _) vM (Memref.isWhole_whole _) cc0_scratch3 cc0_scratch4 cc0_scratch5 c w₁ w₂ w₃ a) Q) := by
  simp only [k0_part15_eq_skeleton]; unfold k0_part15_skel
  simp only [semSignalHereWord, semSignalWord, semWaitWord, Prog.lift, Prog.bind_op, Prog.bind_ret, Prog.pure_eq_ret, wp_deviceId]
  iintro ⟨#HK, HO, HV2, HR3, HR4⟩ Hk
  unfold filled; icases HV2 with ⟨HV2, HZ2⟩
  iapply (step_landed m ρ c 2 rfl) $$ HV2; iintro HV2
  iapply (step_recv m ρ K c 3 rfl rfl) $$ [HO HR3]
  · isplitr; · iexact HK
    isplitl [HO]; · iexact HO
    iexact HR3
  iintro ⟨HO, HZ3, HV3⟩
  iapply (step_landed m ρ c 3 rfl) $$ HV3; iintro HV3
  iapply (step_recv m ρ K c 4 rfl rfl) $$ [HO HR4]
  · isplitr; · iexact HK
    isplitl [HO]; · iexact HO
    iexact HR4
  iintro ⟨HO, HZ4, HV4⟩
  iapply (step_landed m ρ c 4 rfl) $$ HV4; iintro HV4
  rw [wp_ret]; imodintro
  iapply Hk
  isplitl [HO]; · iexact HO
  isplitl [HV2 HZ2]; · (isplitl [HV2] <;> iassumption)
  isplitl [HV3 HZ3]; · (isplitl [HV3] <;> iassumption)
  isplitl [HV4] <;> iassumption

set_option maxHeartbeats 1000000 in
/-- The last two receipts, the result, and the first copy back. -/
theorem part16 (w : BitVec 32) {Q : _ → sProp 𝕄} :
    iprop(known m ρ K ∗ owing c 0 ∗ waiter c (kr 5) ∗ waiter c (kr 6) ∗ oAny c ∗ waiter c (ks 0))
      ⊢ iprop(((owing c 0 ∗ filled m ρ c 5 ∗ filled m ρ c 6 ∗ oAt m ρ c ∗ returned c 0) -∗ Q ⟨⟩)
        -∗ wp frame (wpE (defs₀ (F := F)) 𝒱₀ (c : Thread nD τ) none) Set.univ
            (k0_part16 xM (Memref.isWhole_whole _) iM (Memref.isWhole_whole _) wM (Memref.isWhole_whole _) oM (Memref.isWhole_whole _)
              pM (Memref.isWhole_whole _) gM (Memref.isWhole_whole _) vM (Memref.isWhole_whole _) cc0_scratch3 cc0_scratch4 cc0_scratch5 c w
              (k0_pay19 (k0_pay18 (own m ρ c) (landed m ρ c 0) (landed m ρ c 1)) (landed m ρ c 2) (landed m ρ c 3) (landed m ρ c 4))) Q) := by
  simp only [k0_part16_eq_skeleton]; unfold k0_part16_skel
  simp only [semSignalHereWord, semSignalWord, semWaitWord, Prog.lift, Prog.bind_op, Prog.bind_ret, Prog.pure_eq_ret, wp_deviceId]
  iintro ⟨#HK, HO, HR5, HR6, Ho, Hw⟩ Hk
  iapply (step_recv m ρ K c 5 rfl rfl) $$ [HO HR5]
  · isplitr; · iexact HK
    isplitl [HO]; · iexact HO
    iexact HR5
  iintro ⟨HO, HZ5, HV5⟩
  iapply (step_landed m ρ c 5 rfl) $$ HV5; iintro HV5
  ihave HV5 : filled m ρ c 5 $$ [HV5 HZ5]
  · unfold filled; isplitl [HV5] <;> iassumption
  iapply (step_recv m ρ K c 6 rfl rfl) $$ [HO HR6]
  · isplitr; · iexact HK
    isplitl [HO]; · iexact HO
    iexact HR6
  iintro ⟨HO, HZ6, HV6⟩
  iapply (step_landed m ρ c 6 rfl) $$ HV6; iintro HV6
  ihave HV6 : filled m ρ c 6 $$ [HV6 HZ6]
  · unfold filled; isplitl [HV6] <;> iassumption
  iapply (step_opeek c) $$ Ho; iintro %_ Ho
  iapply (step_oput m ρ c rfl) $$ Ho; iintro Ho
  iapply (step_sent m ρ K c 0 rfl (off4_eq c 0)) $$ [HO Hw]
  · isplitr; · iexact HK
    isplitl [HO]; · iexact HO
    iexact Hw
  iintro ⟨HO, HZ0, HP0⟩
  ihave HP0 : returned c 0 $$ [HP0 HZ0]
  · unfold returned; isplitl [HP0] <;> iassumption
  rw [wp_ret]; imodintro
  iapply Hk
  isplitl [HO]; · iexact HO
  isplitl [HV5]; · iexact HV5
  isplitl [HV6]; · iexact HV6
  isplitl [Ho]; · iexact Ho
  iexact HP0

set_option maxHeartbeats 1000000 in
/-- Four more copies back. -/
theorem part17 {Q : _ → sProp 𝕄} :
    iprop(known m ρ K ∗ owing c 0 ∗ waiter c (ks 1) ∗ waiter c (ks 2) ∗ waiter c (ks 3) ∗ waiter c (ks 4))
      ⊢ iprop(((owing c 0 ∗ returned c 1 ∗ returned c 2 ∗ returned c 3 ∗ returned c 4) -∗ Q ⟨⟩)
        -∗ wp frame (wpE (defs₀ (F := F)) 𝒱₀ (c : Thread nD τ) none) Set.univ
            (k0_part17 xM (Memref.isWhole_whole _) iM (Memref.isWhole_whole _) wM (Memref.isWhole_whole _) oM (Memref.isWhole_whole _)
              pM (Memref.isWhole_whole _) gM (Memref.isWhole_whole _) vM (Memref.isWhole_whole _) cc0_scratch3 cc0_scratch4 cc0_scratch5 c) Q) := by
  simp only [k0_part17_eq_skeleton]; unfold k0_part17_skel
  simp only [semSignalHereWord, semSignalWord, semWaitWord, Prog.lift, Prog.bind_op, Prog.bind_ret, Prog.pure_eq_ret, wp_deviceId]
  iintro ⟨#HK, HO, HW1, HW2, HW3, HW4⟩ Hk
  iapply (step_sent m ρ K c 1 rfl (off4_eq c 1)) $$ [HO HW1]
  · isplitr; · iexact HK
    isplitl [HO]; · iexact HO
    iexact HW1
  iintro ⟨HO, HZ1, HP1⟩
  ihave HP1 : returned c 1 $$ [HP1 HZ1]
  · unfold returned; isplitl [HP1] <;> iassumption
  iapply (step_sent m ρ K c 2 rfl (off4_eq c 2)) $$ [HO HW2]
  · isplitr; · iexact HK
    isplitl [HO]; · iexact HO
    iexact HW2
  iintro ⟨HO, HZ2, HP2⟩
  ihave HP2 : returned c 2 $$ [HP2 HZ2]
  · unfold returned; isplitl [HP2] <;> iassumption
  iapply (step_sent m ρ K c 3 rfl (off4_eq c 3)) $$ [HO HW3]
  · isplitr; · iexact HK
    isplitl [HO]; · iexact HO
    iexact HW3
  iintro ⟨HO, HZ3, HP3⟩
  ihave HP3 : returned c 3 $$ [HP3 HZ3]
  · unfold returned; isplitl [HP3] <;> iassumption
  iapply (step_sent m ρ K c 4 rfl (off4_eq c 4)) $$ [HO HW4]
  · isplitr; · iexact HK
    isplitl [HO]; · iexact HO
    iexact HW4
  iintro ⟨HO, HZ4, HP4⟩
  ihave HP4 : returned c 4 $$ [HP4 HZ4]
  · unfold returned; isplitl [HP4] <;> iassumption
  rw [wp_ret]; imodintro
  iapply Hk
  isplitl [HO]; · iexact HO
  isplitl [HP1]; · iexact HP1
  isplitl [HP2]; · iexact HP2
  isplitl [HP3]; · iexact HP3
  iexact HP4

end Body

end Cert.Exchange

end
-- ==== Proof.Body.lean ====
/-
# The kernel's body, whole

The pieces put together: what a device holds before its kernel, and what after. Before it, the buffer of contributions
is cut into the rows of the eight devices and the landing buffer into its seven slots; after it they are joined again.
-/
module

public import proofs.«01_k».proof.Proof.Pieces

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- A separating conjunction over seven indices, written out. -/
theorem bigSep_fin7 (Φ : Fin 7 → sProp 𝕄) :
    bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- The kernel's body on the staged blocks. -/
abbrev bodyAt : Prog (TpuEff nD τ sig (Elt F) Λ₀ .tc) PUnit :=
  cc0_body xM (Memref.isWhole_whole _) iM (Memref.isWhole_whole _) wM (Memref.isWhole_whole _) oM (Memref.isWhole_whole _)
    pM (Memref.isWhole_whole _) gM (Memref.isWhole_whole _) vM (Memref.isWhole_whole _) cc0_scratch3 cc0_scratch4 cc0_scratch5

/-- What a device's kernel starts from, besides what all know; -/
def before (c : Dev nD) : sProp 𝕄 :=
  iprop(owing c (O₀ c) ∗ duty c kb ∗ waiter c kb ∗ (bigSep Finset.univ fun k => offer c k) ∗ (bigSep Finset.univ fun k => copy c k)
    ∗ (bigSep Finset.univ fun k => waiter c (kr k)) ∗ (bigSep Finset.univ fun k => held c (chunkM (peer c k)))
    ∗ gAny c ∗ xAt m ρ c ∗ iAt m ρ c ∗ wAt m ρ c ∗ oAny c)

/-- what it ends with: nothing owed, every semaphore at zero, the slots filled, the rows returned, the result stored. -/
def after (c : Dev nD) : sProp 𝕄 :=
  iprop(owing c 0 ∗ atZero c kb ∗ (bigSep Finset.univ fun k => atZero c (kc k)) ∗ (bigSep Finset.univ fun k => filled m ρ c k)
    ∗ (bigSep Finset.univ fun k => returned c k)
    ∗ gAt m ρ c ∗ xAt m ρ c ∗ iAt m ρ c ∗ wAt m ρ c ∗ oAt m ρ c)

set_option maxRecDepth 8000 in
set_option maxHeartbeats 1000000 in
/-- The kernel on device `c` takes `before` to `after`. -/
theorem body (K : Dev nD × CK → ℕ) (c : Dev nD) {Q : PUnit → sProp 𝕄} :
    iprop(known m ρ K ∗ before m ρ c)
      ⊢ iprop((after m ρ c -∗ Q ⟨⟩) -∗ wp frame (wpE (defs₀ (F := F)) 𝒱₀ (c : Thread nD τ) none) Set.univ bodyAt Q) := by
  unfold bodyAt before after
  simp only [cc0_body_eq_skeleton]; unfold cc0_body_skel
  simp only [bigSep_fin7]
  iintro ⟨#HK, HO, Hd, Hb, ⟨HF0, HF1, HF2, HF3, HF4, HF5, HF6⟩, ⟨HC0, HC1, HC2, HC3, HC4, HC5, HC6⟩, ⟨HR0, HR1, HR2, HR3, HR4, HR5, HR6⟩, ⟨HP0, HP1, HP2, HP3, HP4, HP5, HP6⟩, Hg, Hx, Hi, Hw, Ho⟩ Hk
  rw [wp_bind]
  iapply (part1 m ρ K c) $$ [HO Hd Hb HF6]
  · isplitr; · iexact HK
    isplitl [HO]; · iexact HO
    isplitl [Hd]; · iexact Hd
    isplitl [Hb]; · iexact Hb
    iexact HF6
  iintro %u1 ⟨HO, Hzb⟩
  dsimp only
  rw [wp_bind]
  iapply (part2 m ρ K c u1) $$ [HO HF5 HF4 HF3]
  · isplitr; · iexact HK
    isplitl [HO]; · iexact HO
    isplitl [HF5]; · iexact HF5
    isplitl [HF4]; · iexact HF4
    iexact HF3
  iintro HO
  rw [wp_bind]
  iapply (part3 m ρ K c) $$ [HO HF2 HF1]
  · isplitr; · iexact HK
    isplitl [HO]; · iexact HO
    isplitl [HF2]; · iexact HF2
    iexact HF1
  iintro %u2 %u3 %u4 %u5 HO
  dsimp only
  rw [wp_bind]
  iapply (part4 m ρ K c u2 u3 u4 u5) $$ [HO HF0 Hi Hg]
  · isplitr; · iexact HK
    isplitl [HO]; · iexact HO
    isplitl [HF0]; · iexact HF0
    isplitl [Hi]; · iexact Hi
    iexact Hg
  iintro ⟨HO, Hi, Hg⟩
  rw [wp_bind]
  iapply (part5 m ρ K c) $$ [Hw Hx Hg HP0]
  · isplitr; · iexact HK
    isplitl [Hw]; · iexact Hw
    isplitl [Hx]; · iexact Hx
    isplitl [Hg]; · iexact Hg
    iexact HP0
  iintro %a0 ⟨Hw, Hx, Hg, HP0⟩
  dsimp only
  rw [wp_bind]
  iapply (part6 m ρ K c a0) $$ [HO HC0 HP0 Hx Hg]
  · isplitr; · iexact HK
    isplitl [HO]; · iexact HO
    isplitl [HC0]; · iexact HC0
    isplitl [HP0]; · iexact HP0
    isplitl [Hx]; · iexact Hx
    iexact Hg
  iintro %a1 %b1 ⟨HO, HC0, Hx, Hg⟩
  dsimp only
  rw [wp_bind]
  iapply (part7 m ρ K c a1 b1) $$ [HO HC1 HP1 Hx]
  · isplitr; · iexact HK
    isplitl [HO]; · iexact HO
    isplitl [HC1]; · iexact HC1
    isplitl [HP1]; · iexact HP1
    iexact Hx
  iintro %a2 %b2 %d2 ⟨HO, HC1, Hx⟩
  dsimp only
  rw [wp_bind]
  iapply (part8 m ρ K c a2 b2 d2) $$ [HO HC2 HP2 Hg]
  · isplitr; · iexact HK
    isplitl [HO]; · iexact HO
    isplitl [HC2]; · iexact HC2
    isplitl [HP2]; · iexact HP2
    iexact Hg
  iintro %a3 %b3 %d3 %e3 ⟨HO, HC2, Hg⟩
  dsimp only
  rw [wp_bind]
  iapply (part9 m ρ K c a3 b3 d3 e3 0#32) $$ [HO HC3 HP3 Hx Hg]
  · isplitr; · iexact HK
    isplitl [HO]; · iexact HO
    isplitl [HC3]; · iexact HC3
    isplitl [HP3]; · iexact HP3
    isplitl [Hx]; · iexact Hx
    iexact Hg
  iintro %a4 ⟨HO, HC3, Hx, Hg⟩
  dsimp only
  rw [wp_bind]
  iapply (part10 m ρ K c 5#32) $$ [HO HC4 HP4 Hx Hg]
  · isplitr; · iexact HK
    isplitl [HO]; · iexact HO
    isplitl [HC4]; · iexact HC4
    isplitl [HP4]; · iexact HP4
    isplitl [Hx]; · iexact Hx
    iexact Hg
  iintro %a5 ⟨HO, HC4, HP4, Hx, Hg⟩
  rw [wp_bind]
  iapply (part11 m ρ K c) $$ [HO HC4 HP4 HP5 Hx Hg]
  · isplitr; · iexact HK
    isplitl [HO]; · iexact HO
    isplitl [HC4]; · iexact HC4
    isplitl [HP4]; · iexact HP4
    isplitl [HP5]; · iexact HP5
    isplitl [Hx]; · iexact Hx
    iexact Hg
  iintro %a6 ⟨HO, HC4, HP5, Hx, Hg⟩
  rw [wp_bind]
  iapply (part12 m ρ K c a6) $$ [HO HC5 HP5 Hx Hg]
  · isplitr; · iexact HK
    isplitl [HO]; · iexact HO
    isplitl [HC5]; · iexact HC5
    isplitl [HP5]; · iexact HP5
    isplitl [Hx]; · iexact Hx
    iexact Hg
  iintro %a7 %b7 ⟨HO, HC5, Hx, Hg⟩
  dsimp only
  rw [wp_bind]
  iapply (part13 m ρ K c a7 b7) $$ [HO HC6 HP6 Hx Hg]
  · isplitr; · iexact HK
    isplitl [HO]; · iexact HO
    isplitl [HC6]; · iexact HC6
    isplitl [HP6]; · iexact HP6
    isplitl [Hx]; · iexact Hx
    iexact Hg
  iintro ⟨HO, HC6, Hx, Hg⟩
  unfold copied
  icases HC0 with ⟨HS0, HZ0⟩
  icases HC1 with ⟨HS1, HZ1⟩
  icases HC2 with ⟨HS2, HZ2⟩
  icases HC3 with ⟨HS3, HZ3⟩
  icases HC4 with ⟨HS4, HZ4⟩
  icases HC5 with ⟨HS5, HZ5⟩
  icases HC6 with ⟨HS6, HZ6⟩
  rw [wp_bind]
  iapply (part14 m ρ K c _ _ _ _) $$ [HO HR0 HR1 HR2]
  · isplitr; · iexact HK
    isplitl [HO]; · iexact HO
    isplitl [HR0]; · iexact HR0
    isplitl [HR1]; · iexact HR1
    iexact HR2
  iintro ⟨HO, HV0, HV1, HV2⟩
  rw [wp_bind]
  iapply (part15 m ρ K c _ _ _ _) $$ [HO HV2 HR3 HR4]
  · isplitr; · iexact HK
    isplitl [HO]; · iexact HO
    isplitl [HV2]; · iexact HV2
    isplitl [HR3]; · iexact HR3
    iexact HR4
  iintro ⟨HO, HV2, HV3, HV4⟩
  rw [wp_bind]
  iapply (part16 m ρ K c _) $$ [HO HR5 HR6 Ho HS0]
  · isplitr; · iexact HK
    isplitl [HO]; · iexact HO
    isplitl [HR5]; · iexact HR5
    isplitl [HR6]; · iexact HR6
    isplitl [Ho]; · iexact Ho
    iexact HS0
  iintro ⟨HO, HV5, HV6, Ho, HQ0⟩
  rw [wp_bind]
  iapply (part17 m ρ K c) $$ [HO HS1 HS2 HS3 HS4]
  · isplitr; · iexact HK
    isplitl [HO]; · iexact HO
    isplitl [HS1]; · iexact HS1
    isplitl [HS2]; · iexact HS2
    isplitl [HS3]; · iexact HS3
    iexact HS4
  iintro ⟨HO, HQ1, HQ2, HQ3, HQ4⟩
  simp only [Prog.lift, Prog.bind_op, Prog.bind_ret, Prog.pure_eq_ret]
  iapply (step_sent m ρ K c 5 rfl (off4_eq c 5)) $$ [HO HS5]
  · isplitr; · iexact HK
    isplitl [HO]; · iexact HO
    iexact HS5
  iintro ⟨HO, HE5, HQ5⟩
  iapply (step_sent m ρ K c 6 rfl (off4_eq c 6)) $$ [HO HS6]
  · isplitr; · iexact HK
    isplitl [HO]; · iexact HO
    iexact HS6
  iintro ⟨HO, HE6, HQ6⟩
  rw [wp_ret]; imodintro; iapply Hk; unfold returned
  isplitl [HO]; · iexact HO
  isplitl [Hzb]; · iexact Hzb
  isplitl [HZ0 HZ1 HZ2 HZ3 HZ4 HZ5 HZ6]
  · isplitl [HZ0]; · iexact HZ0
    isplitl [HZ1]; · iexact HZ1
    isplitl [HZ2]; · iexact HZ2
    isplitl [HZ3]; · iexact HZ3
    isplitl [HZ4]; · iexact HZ4
    isplitl [HZ5]; · iexact HZ5
    iexact HZ6
  isplitl [HV0 HV1 HV2 HV3 HV4 HV5 HV6]
  · isplitl [HV0]; · iexact HV0
    isplitl [HV1]; · iexact HV1
    isplitl [HV2]; · iexact HV2
    isplitl [HV3]; · iexact HV3
    isplitl [HV4]; · iexact HV4
    isplitl [HV5]; · iexact HV5
    iexact HV6
  isplitl [HQ0 HQ1 HQ2 HQ3 HQ4 HE5 HQ5 HE6 HQ6]
  · isplitl [HQ0]; · iexact HQ0
    isplitl [HQ1]; · iexact HQ1
    isplitl [HQ2]; · iexact HQ2
    isplitl [HQ3]; · iexact HQ3
    isplitl [HQ4]; · iexact HQ4
    isplitl [HE5 HQ5]
    · isplitl [HQ5]; · iexact HQ5
      iexact HE5
    isplitl [HQ6]; · iexact HQ6
    iexact HE6
  isplitl [Hg]; · iexact Hg
  isplitl [Hx]; · iexact Hx
  isplitl [Hi]; · iexact Hi
  isplitl [Hw]; · iexact Hw
  iexact Ho

end Cert.Exchange

end
-- ==== Proof.Region.lean ====
/-
# The kernel's call

What a device holds when its call starts and when it ends, the staged arrays included, and the body between the two.
-/
module

public import proofs.«01_k».proof.Proof.Body

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cutting and joining the scratch buffers -/

/-- The chunk of device `t` is its rectangle of rows, -/
theorem chunkSet_eq (t : Dev nD) : chunkSet t = (pRect t).set := View.set_slice_whole _ _
/-- and a landing slot is its rectangle. -/
theorem slotSet_eq (k : Fin 7) : slotSet k = (vRect k).set := (View.set_reshape _ _).trans (View.set_slice_whole _ _)

/-- A cell is in a chunk exactly when its row is one of the 64; -/
theorem mem_chunk {t : Dev nD} {i : S512x512.Idx} : i ∈ (pRect t).set ↔ 64 * t.val ≤ (i 0).val ∧ (i 0).val < 64 * t.val + 64 := by
  rw [Rect.mem_set_unit]
  constructor
  · intro h; exact h 0
  · intro h a
    match a with
    | ⟨0, _⟩ => exact h
    | ⟨1, _⟩ => exact ⟨Nat.zero_le _, by have := (i 1).isLt; show (i 1).val < 0 + 512; simpa using this⟩

/-- it is in a slot exactly when its first coordinate is the slot's. -/
theorem mem_slot {k : Fin 7} {i : S7x64x512.Idx} : i ∈ (vRect k).set ↔ (i 0).val = k.val := by
  rw [Rect.mem_set_unit]
  constructor
  · intro h
    have h0 : k.val ≤ (i 0).val ∧ (i 0).val < k.val + 1 := h 0
    omega
  · intro h a
    match a with
    | ⟨0, _⟩ => exact ⟨le_of_eq h.symm, by show (i 0).val < k.val + 1; omega⟩
    | ⟨1, _⟩ => exact ⟨Nat.zero_le _, by have := (i 1).isLt; show (i 1).val < 0 + 64; simpa using this⟩
    | ⟨2, _⟩ => exact ⟨Nat.zero_le _, by have := (i 2).isLt; show (i 2).val < 0 + 512; simpa using this⟩

/-- The rows of different devices are different, -/
theorem chunk_disjoint (t t' : Dev nD) (h : t ≠ t') : Disjoint (chunkSet t) (chunkSet t') := by
  rw [chunkSet_eq, chunkSet_eq, Finset.disjoint_left]
  intro i hi hi'
  have h1 := mem_chunk.mp hi
  have h2 := mem_chunk.mp hi'
  exact h (Fin.ext (by omega))
/-- and together all rows. -/
theorem chunk_cover : Finset.univ.biUnion chunkSet = Finset.univ := by
  refine Finset.eq_univ_iff_forall.mpr fun i => Finset.mem_biUnion.mpr ?_
  have hi : ((i : S512x512.Idx) 0).val < 512 := ((i : S512x512.Idx) 0).isLt
  obtain ⟨n, hn⟩ : ∃ n, n = ((i : S512x512.Idx) 0).val := ⟨_, rfl⟩
  rw [← hn] at hi
  refine ⟨⟨n / 64, by show n / 64 < 8; omega⟩, Finset.mem_univ _, ?_⟩
  rw [chunkSet_eq]
  refine mem_chunk.mpr ?_
  rw [← hn]
  constructor
  · show 64 * (n / 64) ≤ n; omega
  · show n < 64 * (n / 64) + 64; omega
/-- Likewise the landing slots. -/
theorem slot_disjoint (k k' : Fin 7) (h : k ≠ k') : Disjoint (slotSet k) (slotSet k') := by
  rw [slotSet_eq, slotSet_eq, Finset.disjoint_left]
  intro i hi hi'
  have h1 := mem_slot.mp hi
  have h2 := mem_slot.mp hi'
  exact h (Fin.ext (by omega))
/-- The slots cover the landing buffer. -/
theorem slot_cover : Finset.univ.biUnion slotSet = Finset.univ := by
  refine Finset.eq_univ_iff_forall.mpr fun i => Finset.mem_biUnion.mpr ?_
  let k : Fin 7 := (i : S7x64x512.Idx) 0
  refine ⟨k, Finset.mem_univ _, ?_⟩
  rw [slotSet_eq k]
  exact mem_slot.mpr rfl

/-- The buffer of contributions and the landing buffer, whole at some contents. -/
abbrev pAny (c : Dev nD) : sProp 𝕄 := iprop(∃ f : Buf (Elt F) ((c : Thread nD τ).loc cc0_scratch0), ((c : Thread nD τ).loc cc0_scratch0) ↦{fullShare} f)
/-- The landing buffer, at any contents. -/
abbrev vAny (c : Dev nD) : sProp 𝕄 := iprop(∃ f : Buf (Elt F) ((c : Thread nD τ).loc cc0_scratch2), ((c : Thread nD τ).loc cc0_scratch2) ↦{fullShare} f)

/-- The devices as seen from `c`: `c` itself and the seven after it. -/
def around (c : Dev nD) : Unit ⊕ Fin 7 ≃ Dev nD :=
  Equiv.ofBijective (Sum.elim (fun _ => c) (peer c)) (by revert c; decide +kernel)

omit [FloatOps F] in
/-- Something of every device is something of one and of the seven after it on the ring. -/
theorem around_sep (c : Dev nD) (Φ : Dev nD → sProp 𝕄) :
    bigSep Finset.univ Φ = iprop(Φ c ∗ bigSep Finset.univ fun k => Φ (peer c k)) := by
  rw [bigSep_univ_equiv (around c), bigSep_univ_sum]
  have h : bigSep (Finset.univ : Finset Unit) (fun u => Φ (around c (.inl u))) = Φ c := by
    rw [Finset.univ_unique, bigSep_singleton]; rfl
  rw [h]; rfl

omit [FloatOps F] in
/-- The contributions' buffer is its own rows and the other devices'. -/
theorem cut_p (c : Dev nD) : pAny (F := F) c ⊢ iprop(held c (chunkM c) ∗ bigSep Finset.univ fun k => held c (chunkM (peer c k))) := by
  iintro ⟨%f, H⟩
  iapply (Entails.of_eq (around_sep (F := F) c fun t => held c (chunkM t)))
  have h : (((c : Thread nD τ).loc cc0_scratch0) ↦{fullShare} f : sProp 𝕄) ⊢ bigSep Finset.univ fun t : Dev nD => held (F := F) c (chunkM t) := by
    rw [Idealize.ShloMosaic.Ring.pointsTo_blocks (ℓ := (c : Thread nD τ).loc cc0_scratch0) chunkSet chunk_disjoint chunk_cover f]
    refine bigSep_mono fun t _ => ?_
    show (((c : Thread nD τ).loc cc0_scratch0) ↦[chunkSet t]{fullShare} f : sProp 𝕄) ⊢ held (F := F) c (chunkM t)
    unfold held; iintro H; iexists f; iexact H
  iapply h; iexact H

/-- The eight chunks, held, are the contributions' buffer. -/
theorem join_p (c : Dev nD) : iprop(held c (chunkM c) ∗ bigSep Finset.univ fun k => held c (chunkM (peer c k))) ⊢ pAny (F := F) c := by
  refine (Entails.of_eq (around_sep (F := F) c fun t => held c (chunkM t)).symm).trans ?_
  exact Idealize.ShloMosaic.Ring.pointsTo_blocks_join_exists (ℓ := (c : Thread nD τ).loc cc0_scratch0) chunkSet chunk_disjoint chunk_cover (fun _ => default)

omit [FloatOps F] in
/-- The landing buffer is its seven slots. -/
theorem cut_v (c : Dev nD) : vAny (F := F) c ⊢ bigSep Finset.univ fun k => held c (slotM k) := by
  iintro ⟨%f, H⟩
  have h : (((c : Thread nD τ).loc cc0_scratch2) ↦{fullShare} f : sProp 𝕄) ⊢ bigSep Finset.univ fun k : Fin 7 => held (F := F) c (slotM k) := by
    rw [Idealize.ShloMosaic.Ring.pointsTo_blocks (ℓ := (c : Thread nD τ).loc cc0_scratch2) slotSet slot_disjoint slot_cover f]
    refine bigSep_mono fun t _ => ?_
    show (((c : Thread nD τ).loc cc0_scratch2) ↦[slotSet t]{fullShare} f : sProp 𝕄) ⊢ held (F := F) c (slotM t)
    unfold held; iintro H; iexists f; iexact H
  iapply h; iexact H

/-- The seven slots, held, are the landing buffer. -/
theorem join_v (c : Dev nD) : (bigSep Finset.univ fun k => held c (slotM k)) ⊢ vAny (F := F) c :=
  Idealize.ShloMosaic.Ring.pointsTo_blocks_join_exists (ℓ := (c : Thread nD τ).loc cc0_scratch2) slotSet slot_disjoint slot_cover (fun _ => default)

/-! ## Before and after the call -/

omit [FloatOps F] in
/-- Something for each semaphore of the exchange: for the barrier's, the send ones, the receive ones, the credit ones. -/
theorem bigSep_CK (Φ : CK → sProp 𝕄) :
    bigSep Finset.univ Φ = iprop(Φ kb ∗ (bigSep Finset.univ fun k => Φ (ks k)) ∗ (bigSep Finset.univ fun k => Φ (kr k)) ∗ (bigSep Finset.univ fun k => Φ (kc k))) := by
  rw [bigSep_univ_sum, bigSep_univ_sum, bigSep_univ_sum]
  have h : bigSep (Finset.univ : Finset Unit) (fun u => Φ (.inl u)) = Φ kb := by
    rw [Finset.univ_unique, bigSep_singleton]
  rw [h]; rfl

/-- A device's positions at its semaphores and the duties it has; -/
def linear (c : Dev nD) : sProp 𝕄 :=
  iprop((bigSep Finset.univ fun i : CK => atPos ER (kcell (c, i)) 0 ∅ 0) ∗ (bigSep Finset.univ fun i : CK => duty (payee i c) i))
/-- what the launch lets it wait for; -/
def credits (c : Dev nD) : sProp 𝕄 := bigSep Finset.univ fun i : CK => cred (tallyAt (kcell (c, i)) () (due i))
/-- what it starts with. -/
def start (c : Dev nD) : sProp 𝕄 := iprop((∃ K, known m ρ K) ∗ linear c ∗ credits c)

/-- Before the body: the start of the exchange and the three scratch buffers. -/
def Φ₀ (c : Dev nD) : sProp 𝕄 := iprop(start m ρ c ∗ pAny c ∗ gAny c ∗ vAny c)
/-- At the end every semaphore of the exchange is back at zero. -/
def Φ₁ (c : Dev nD) : sProp 𝕄 := iprop(pAny c ∗ gAny c ∗ vAny c ∗ bigSep Finset.univ fun i : CK => atZero (F := F) c i)

/-- The call's data: the arrays as found, the blocks as left, and what is held besides. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => istg m ρ c
    | ⟨2, _⟩ => wstg m ρ c
    | ⟨3, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- From what the call starts with to what the body needs. -/
theorem before_intro (c : Dev nD) :
    iprop(linear c ∗ credits c ∗ owing c (O₀ c) ∗ (bigSep Finset.univ fun k => held c (slotM k))
        ∗ (bigSep Finset.univ fun k => held c (chunkM (peer c k))) ∗ gAny c ∗ xAt m ρ c ∗ iAt m ρ c ∗ wAt m ρ c ∗ oAny c)
      ⊢ before m ρ c := by
  unfold linear credits before
  simp only [bigSep_CK]
  iintro ⟨⟨⟨Ab, As, Ar, Ac⟩, ⟨Db, Ds, Dr, Dc⟩⟩, ⟨Cb, -, Cr, Cc⟩, HO, HV, HP, Hg, Hx, Hi, Hw, Ho⟩
  isplitl [HO]; · iexact HO
  isplitl [Db]; · iexact Db
  isplitl [Ab Cb]
  · unfold waiter
    isplitl [Ab]; · iexact Ab
    iexact Cb
  isplitl [Dc HV]
  · unfold offer; simp only [bigSep_sep']
    isplitl [Dc]; · iexact Dc
    iexact HV
  isplitl [Ac Cc As Ds Dr]
  · unfold copy waiter; simp only [bigSep_sep']
    isplitl [Ac Cc]
    · isplitl [Ac]; · iexact Ac
      iexact Cc
    isplitl [As]; · iexact As
    isplitl [Ds]; · iexact Ds
    iexact Dr
  isplitl [Ar Cr]
  · unfold waiter; simp only [bigSep_sep']
    isplitl [Ar]; · iexact Ar
    iexact Cr
  isplitl [HP]; · iexact HP
  isplitl [Hg]; · iexact Hg
  isplitl [Hx]; · iexact Hx
  isplitl [Hi]; · iexact Hi
  isplitl [Hw]; · iexact Hw
  iexact Ho

/-- From what the body leaves to what the call ends with. -/
theorem after_elim (c : Dev nD) :
    iprop(held c (chunkM c) ∗ after m ρ c) ⊢ iprop(Φ₁ c ∗ owing c 0 ∗ xAt m ρ c ∗ iAt m ρ c ∗ wAt m ρ c ∗ oAt m ρ c) := by
  unfold after Φ₁ filled returned
  simp only [bigSep_CK, bigSep_sep']
  iintro ⟨HP0, HO, Zb, Zc, ⟨HV, Zr⟩, ⟨HP, Zs⟩, Hg, Hx, Hi, Hw, Ho⟩
  isplitl [HP0 Zb Zc HV Zr HP Zs Hg]
  · isplitl [HP0 HP]
    · iapply (join_p (F := F) c)
      isplitl [HP0]; · iexact HP0
      iexact HP
    isplitl [Hg]; · iexists _; iexact Hg
    isplitl [HV]
    · iapply (join_v (F := F) c)
      have h : (bigSep Finset.univ fun k : Fin 7 => heldAt (F := F) c (slotM k) (contrib m ρ (back c k) c)) ⊢ bigSep Finset.univ fun k : Fin 7 => held c (slotM k) :=
        bigSep_mono fun k _ => heldAt_held c _ _
      iapply h; iexact HV
    isplitl [Zb]; · iexact Zb
    isplitl [Zs]; · iexact Zs
    isplitl [Zr]; · iexact Zr
    iexact Zc
  isplitl [HO]; · iexact HO
  isplitl [Hx]; · iexact Hx
  isplitl [Hi]; · iexact Hi
  isplitl [Hw]; · iexact Hw
  iexact Ho

/-! ## The body's obligation -/

/-- A staging buffer held at `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

omit [FloatOps F] in
/-- Owning a whole staging buffer is its points-to. -/
theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns stg; simp only [Memref.view_whole, View.read_whole, View.set_whole]

/-- The call's one point. -/
abbrev t₀ : Fin cfg0.N := t0_0

/-- What the body is entered with, -/
def entry (c : Dev nD) : sProp 𝕄 :=
  iprop(Φ₀ m ρ c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))
/-- and what it leaves. -/
def exit (c : Dev nD) : sProp 𝕄 :=
  iprop(Φ₁ c ∗ (dats m ρ 0 c).owesAt () t₀.succ
    ∗ stg c cc0_stg0_0 (xstg m ρ c) ∗ stg c cc0_stg1_0 (istg m ρ c) ∗ stg c cc0_stg2_0 (wstg m ρ c) ∗ stg c cc0_stg3_0 (outAt m ρ c))

/-- The body finds the activations staged, -/
theorem before_x (c : Dev nD) (d) : (dats m ρ 0 c).before (0 : Fin 4) t₀ d = xstg m ρ c := by
  unfold Dat.before; rw [if_pos (fetch0_0 t₀)]; rfl
/-- the route staged, -/
theorem before_i (c : Dev nD) (d) : (dats m ρ 0 c).before (1 : Fin 4) t₀ d = istg m ρ c := by
  unfold Dat.before; rw [if_pos (fetch0_1 t₀)]; rfl
/-- and the weights staged. -/
theorem before_w (c : Dev nD) (d) : (dats m ρ 0 c).before (2 : Fin 4) t₀ d = wstg m ρ c := by
  unfold Dat.before; rw [if_pos (fetch0_2 t₀)]; rfl

set_option maxRecDepth 4000 in
/-- The body takes the call's entry to its exit. -/
theorem body_entry (c : Dev nD) :
    entry m ρ c ⊢ wp frame (wpE (defs₀ (F := F)) 𝒱₀ (c : Thread nD τ) none) Set.univ bodyAt (fun _ => exit m ρ c) := by
  unfold entry Φ₀ start
  simp only [before_x, before_i, before_w]
  unfold Dat.owesAt Pipeline.owesWithin
  rw [show (dats m ρ 0 c).owed t₀.castSucc = O₀ c from rfl]
  iintro ⟨⟨⟨⟨%K, #HK⟩, HL, HC⟩, HP, Hg, HV⟩, ⟨%W, -, HO⟩, ⟨%dx, %fx, %ex, Hx⟩, ⟨%di, %fi, %ei, Hi⟩, ⟨%dw, %fw, %ew, Hw⟩, ⟨%do', %fo, %eo, Ho⟩⟩
  subst ex ei ew
  ihave HP' := (cut_p (F := F) c) $$ HP
  icases HP' with ⟨HP0, HP⟩
  ihave HV' := (cut_v (F := F) c) $$ HV
  iapply (body m ρ K c) $$ [HL HC HO HP HV' Hg Hx Hi Hw Ho]
  · isplitr; · iexact HK
    iapply (before_intro m ρ c)
    isplitl [HL]; · iexact HL
    isplitl [HC]; · iexact HC
    isplitl [HO]; · unfold owing; iexists W; iexact HO
    isplitl [HV']; · iexact HV'
    isplitl [HP]; · iexact HP
    isplitl [Hg]; · iexact Hg
    isplitl [Hx]; · iexact Hx
    isplitl [Hi]; · iexact Hi
    isplitl [Hw]; · iexact Hw
    iexists fo; iexact Ho
  iintro HA
  ihave HA' := (after_elim m ρ c) $$ [HP0 HA]
  · isplitl [HP0]; · iexact HP0
    iexact HA
  icases HA' with ⟨HΦ, HO, Hx, Hi, Hw, Ho⟩
  unfold exit Dat.owesAt Pipeline.owesWithin owing
  rw [show (dats m ρ 0 c).owed t₀.succ = 0 from rfl]
  icases HO with ⟨%W', HO⟩
  isplitl [HΦ]; · iexact HΦ
  isplitl [HO]
  · iexists W'
    isplitr; · ipureintro; exact fun _ _ => Or.inl trivial
    iexact HO
  isplitl [Hx]
  · iexists _; isplitr; · ipureintro; rfl
    iexact Hx
  isplitl [Hi]
  · iexists _; isplitr; · ipureintro; rfl
    iexact Hi
  isplitl [Hw]
  · iexists _; isplitr; · ipureintro; rfl
    iexact Hw
  iexists _; isplitr; · ipureintro; rfl
  iexact Ho

omit [FloatOps F] in
/-- A separating conjunction over the four windows, written out. -/
theorem sep_windows (Φ : Fin cfg0.W → sProp 𝕄) :
    bigSep Finset.univ Φ = iprop(Φ (0 : Fin 4) ∗ Φ (1 : Fin 4) ∗ Φ (2 : Fin 4) ∗ Φ (3 : Fin 4)) := bigSep_W0 Φ

set_option maxRecDepth 4000 in
/-- What the launch asks of the body. -/
theorem body_obligation (c : Dev nD) : BodyObligation (dats (F := F) m ρ 0 c) (defs₀ (F := F)) 𝒱₀ () Set.univ := fun t => by
  rw [fin_N0 t, sep_windows, sep_windows]
  simp only [owns_stg]
  exact body_entry m ρ c

end Cert.Exchange

end
-- ==== Proof.Run.lean ====
/-
# The whole run

The launch deals each device the positions at its own semaphores and the duties it has at the others', and credits it with
what the others owe it. From there every fair execution of the eight devices ends, with the arguments unchanged, each
device's result array at the computed contents and every semaphore at zero.
-/
module

public import Idealize.ShloMosaic.Lib.Pipeline.CollectiveSegs
public import proofs.«01_k».proof.Proof.Region

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the launch deals -/

/-- The kernel's own semaphores, without the barrier's. -/
abbrev osem (i : Fin 7 ⊕ (Fin 7 ⊕ Fin 7)) : SemLoc sig := csem (.inr i)

/-- They are the kernel's, each once. -/
theorem ownSemFacts : Pipeline.OwnSemFacts cfg0.spec osem := by decide

/-- Every window is held whole. -/
theorem share_eq (c : Dev nD) (w : Fin cfg0.W) : (dats m ρ 0 c).share w = fullShare := by unfold Dat.share; split <;> rfl

/-- The semaphores of the exchange on all devices, and the one token of each. -/
def allCells : Finset (GSem nD τ sig) := Finset.univ.map ⟨kcell, kcell_injective⟩
/-- The right to a semaphore's one duty, -/
abbrev tokOf (ck : Dev nD × CK) : GSem nD τ sig × ℕ × Unit := (kcell ck, 0, ())
/-- different for different semaphores, -/
theorem tokOf_injective : Function.Injective tokOf := fun a b h => kcell_injective (congrArg Prod.fst h)
/-- and all of them. -/
def allToks : Finset (GSem nD τ sig × ℕ × Unit) := Finset.univ.map ⟨tokOf, tokOf_injective⟩

/-- The ghost state at the start: nothing has been raised, no right has been used. -/
def u₀ : UU := (initOf (Pipeline.cells cfgs cellOf_inj) (Pipeline.launchToks cfgs cellOf_inj), initOf allCells allToks)

/-- The tokens of device `c`'s own semaphores. -/
def toks (c : Dev nD) : sProp 𝕄 := bigSep Finset.univ fun i : CK => duty c i
/-- What the launch deals device `c` first; -/
def G (c : Dev nD) : sProp 𝕄 :=
  iprop((bigSep Finset.univ fun i : CK => roundState ER (rd m ρ) (kcell (c, i)) 0)
    ∗ (bigSep Finset.univ fun i : CK => iprop(atPos ER (kcell (c, i)) 0 ∅ 0 ∗ reached ER (kcell (c, i)) 0)) ∗ toks c)
/-- what all devices know about the semaphores; -/
def records (K : Dev nD × CK → ℕ) : sProp 𝕄 :=
  iprop((bigSep Finset.univ fun ck : Dev nD × CK => cellInv ER (rd m ρ) (K ck) (kcell ck))
    ∗ bigSep Finset.univ fun ck : Dev nD × CK => reached ER (kcell ck) 0)
/-- The records can be kept for good. -/
instance records_persistent (K : Dev nD × CK → ℕ) : BI.Persistent (records (F := F) m ρ K) := by unfold records; infer_instance
/-- and what it has once the tokens have gone to those who have the duties. -/
def G' (c : Dev nD) : sProp 𝕄 := iprop(∃ K, records m ρ K ∗ linear c)

/-- The ghost state of the exchange is dealt out device by device. -/
theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun i : CK => Φ (kcell (c, i)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks toks; rw [bigSep_map, bigSep_univ_prod]; rfl
  iintro HX
  imod (Rounds.fund ER (rd m ρ) allCells allToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The kernel's own semaphores at zero, by name; -/
theorem ownSems0_eq (c : Dev nD) : (Pipeline.ownSems0 (Ix := Unit) (Name := ℕ) (U := UU) (Lvl := ℕ) (Val := Elt F) (τ := τ) osem c : sProp 𝕄)
    = bigSep Finset.univ fun i : Fin 7 ⊕ (Fin 7 ⊕ Fin 7) => atZero c (.inr i) := rfl
omit [FloatOps F] in
/-- The barrier semaphore is the one that outlives the call. -/
theorem unscopedSems0_eq (c : Dev nD) : (unscopedSems0 c : sProp 𝕄) = atZero c kb := by
  unfold unscopedSems0; rw [bigSep_eq_bigSepL_of_eq [SemLoc.reg barS] (by decide) (by decide)]; rfl
omit [FloatOps F] in
/-- with the barrier's, they are all of the exchange's. -/
theorem sems_eq (c : Dev nD) : (bigSep Finset.univ fun i : CK => atZero (F := F) c i)
    = iprop(atZero c kb ∗ bigSep Finset.univ fun i : Fin 7 ⊕ (Fin 7 ⊕ Fin 7) => atZero c (.inr i)) := by
  rw [bigSep_univ_sum]
  have h : bigSep (Finset.univ : Finset Unit) (fun u => (atZero c (.inl u) : sProp 𝕄)) = atZero c kb := by
    rw [Finset.univ_unique, bigSep_singleton]
  rw [h]; rfl

/-- The invariants of one device's semaphores are set up. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i : CK => iprop(∃ κ : ℕ, cellInv ER (rd m ρ) κ (kcell (c, i))))
          ∗ (bigSep Finset.univ fun i : CK => iprop(atPos ER (kcell (c, i)) 0 ∅ 0 ∗ reached ER (kcell (c, i)) 0)) ∗ toks c) := by
  unfold G
  rw [ownSems0_eq, unscopedSems0_eq]
  iintro ⟨Hos, Hus, Hst, Hat, Htok⟩
  ihave Hv := (Entails.of_eq (sems_eq (F := F) c).symm) $$ [Hos Hus]
  · isplitl [Hus] <;> iassumption
  imod (show iprop((bigSep Finset.univ fun i : CK => atZero (F := F) c i) ∗ bigSep Finset.univ fun i : CK => roundState ER (rd m ρ) (kcell (c, i)) 0)
      ⊢ (|={Set.univ}=> bigSep Finset.univ fun i : CK => iprop(∃ κ : ℕ, cellInv ER (rd m ρ) κ (kcell (c, i))) : sProp 𝕄) from by
        rw [← bigSep_sep']
        exact (bigSep_mono fun i _ => (Rounds.body_intro ER (rd m ρ) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- The tokens go to the devices that have the duties. -/
theorem toks_around : (bigSep Finset.univ fun c : Dev nD => (toks c : sProp 𝕄))
    = bigSep Finset.univ fun c : Dev nD => bigSep Finset.univ fun i : CK => duty (payee i c) i := by
  unfold toks
  rw [bigSep_univ_comm, bigSep_univ_comm (fun (c : Dev nD) (i : CK) => (duty (payee i c) i : sProp 𝕄))]
  exact bigSep_congr fun i _ => bigSep_univ_equiv (payee i) fun c => (duty c i : sProp 𝕄)

/-- The invariants of all devices are recorded for every device, and each right goes to the device with the duty. -/
theorem regroup :
    (bigSep Finset.univ fun c : Dev nD => iprop((bigSep Finset.univ fun i : CK => iprop(∃ κ : ℕ, cellInv ER (rd m ρ) κ (kcell (c, i))))
          ∗ (bigSep Finset.univ fun i : CK => iprop(atPos ER (kcell (c, i)) 0 ∅ 0 ∗ reached ER (kcell (c, i)) 0)) ∗ toks c) : sProp 𝕄)
      ⊢ bigSep Finset.univ (G' m ρ) := by
  simp only [bigSep_sep']
  rw [← bigSep_univ_prod (fun ck : Dev nD × CK => iprop(∃ κ : ℕ, cellInv ER (rd m ρ) κ (kcell ck))),
    ← bigSep_univ_prod (fun ck : Dev nD × CK => (reached ER (kcell ck) 0 : sProp 𝕄)), toks_around]
  iintro ⟨HI, ⟨Hat, #HR⟩, Htok⟩
  ihave HK := (BI.bigSep_exists_pi Finset.univ (fun (ck : Dev nD × CK) (κ : ℕ) => (cellInv ER (rd m ρ) κ (kcell ck) : sProp 𝕄))) $$ HI
  icases HK with ⟨%K, #HI⟩
  have h : iprop((bigSep Finset.univ fun _ : Dev nD => records m ρ K) ∗ bigSep Finset.univ fun c : Dev nD => (linear c : sProp 𝕄)) ⊢ bigSep Finset.univ (G' m ρ) := by
    rw [← bigSep_sep']
    refine bigSep_mono fun c _ => ?_
    show iprop(records m ρ K ∗ linear c) ⊢ G' m ρ c
    unfold G'; iintro H; iexists K; iexact H
  iapply h
  isplitr
  · iapply (BI.bigSep_of_persistent (Finset.univ : Finset (Dev nD)) (records m ρ K))
    unfold records
    isplitl; · iexact HI
    iexact HR
  · unfold linear; simp only [bigSep_sep']
    isplitl [Hat]; · iexact Hat
    iexact Htok

/-- From the semaphores at zero and the dealt ghost state, every device gets its records and rights. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## What the launch credits -/

/-- What a device owes is one raise for each kind of semaphore. -/
theorem O₀_eq (d : Dev nD) : O₀ d = ∑ i : CK, tallyAt (kcell (payee i d, i)) () (due i) := by
  have hs : ∀ i : Fin 7, tallyAt (kcell (payee (ks i) d, ks i)) () (due (ks i)) = (0 : CellTallies nD τ sig Unit) := fun i => tallyAt_zero _ _
  have hr : ∑ k : Fin 7, tallyAt (kcell (payee (kr k) d, kr k)) () (due (kr k)) = oweR d 7 := by
    rw [Fin.sum_univ_seven]
    show _ = 0 + tallyAt (kcell (peer d 6, kr 6)) () N + tallyAt (kcell (peer d 5, kr 5)) () N + tallyAt (kcell (peer d 4, kr 4)) () N
      + tallyAt (kcell (peer d 3, kr 3)) () N + tallyAt (kcell (peer d 2, kr 2)) () N + tallyAt (kcell (peer d 1, kr 1)) () N
      + tallyAt (kcell (peer d 0, kr 0)) () N
    rw [zero_add]
    show tallyAt (kcell (peer d 0, kr 0)) () N + tallyAt (kcell (peer d 1, kr 1)) () N + tallyAt (kcell (peer d 2, kr 2)) () N
      + tallyAt (kcell (peer d 3, kr 3)) () N + tallyAt (kcell (peer d 4, kr 4)) () N + tallyAt (kcell (peer d 5, kr 5)) () N
      + tallyAt (kcell (peer d 6, kr 6)) () N = _
    ac_rfl
  have hc : ∑ k : Fin 7, tallyAt (kcell (payee (kc k) d, kc k)) () (due (kc k)) + oweR d 7 = oweC d 7 := by
    rw [Fin.sum_univ_seven, add_comm]
    show oweR d 7 + (tallyAt (kcell (back d 0, kc 0)) () 1 + tallyAt (kcell (back d 1, kc 1)) () 1 + tallyAt (kcell (back d 2, kc 2)) () 1
      + tallyAt (kcell (back d 3, kc 3)) () 1 + tallyAt (kcell (back d 4, kc 4)) () 1 + tallyAt (kcell (back d 5, kc 5)) () 1
      + tallyAt (kcell (back d 6, kc 6)) () 1) = oweR d 7 + tallyAt (kcell (back d 0, kc 0)) () 1 + tallyAt (kcell (back d 1, kc 1)) () 1
      + tallyAt (kcell (back d 2, kc 2)) () 1 + tallyAt (kcell (back d 3, kc 3)) () 1 + tallyAt (kcell (back d 4, kc 4)) () 1
      + tallyAt (kcell (back d 5, kc 5)) () 1 + tallyAt (kcell (back d 6, kc 6)) () 1
    simp only [add_assoc]
  rw [Fintype.sum_sum_type, Fintype.sum_sum_type, Fintype.sum_sum_type, Finset.sum_congr rfl (fun i _ => hs i), Finset.sum_const_zero, zero_add,
    hr, add_comm (oweR d 7), hc, Fintype.sum_unique, add_comm]
  rfl

/-- What device `d` owes at semaphore `i` of device `c`. -/
theorem owed_at (d c : Dev nD) (i : CK) : O₀ d (kcell (c, i)) () = if payee i d = c then due i else 0 := by
  rw [O₀_eq, Finset.sum_apply, Finsupp.finsetSum_apply, Finset.sum_eq_single i]
  · rw [tallyAt_apply]
    by_cases h : payee i d = c
    · rw [if_pos h, if_pos ⟨by rw [h], rfl⟩]
    · rw [if_neg h, if_neg fun h' => h (congrArg Prod.fst (kcell_injective h'.1)).symm]
  · intro j _ hj
    rw [tallyAt_apply, if_neg fun h' => hj (congrArg Prod.snd (kcell_injective h'.1)).symm]
  · exact fun h => absurd (Finset.mem_univ i) h

/-- What a semaphore is credited with at the start is what it is due, -/
theorem launch_at (c : Dev nD) (i : CK) :
    tallyOn (kcell (c, i)) (launchCredit (Pipeline.owing O₀) 0 (kcell (c, i))) = (tallyAt (kcell (c, i)) () (due i) : CellTallies nD τ sig Unit) := by
  unfold tallyAt; refine congrArg _ (Finsupp.ext fun u => ?_); cases u
  rw [Pipeline.launchCredit_owing, Finsupp.single_eq_same, Finset.sum_congr rfl fun d _ => owed_at d c i, Finset.sum_eq_single ((payee i).symm c)]
  · rw [if_pos ((payee i).apply_symm_apply c)]
  · exact fun d _ hd => if_neg fun h => hd (by rw [← h, Equiv.symm_apply_apply])
  · exact fun h => absurd (Finset.mem_univ _) h

omit [FloatOps F] in
/-- so a device starts with its credits. -/
theorem credits_intro (c : Dev nD) : (Pipeline.launchCred O₀ c : sProp 𝕄) ⊢ credits c := by
  unfold Pipeline.launchCred credits
  refine (bigSep_subset (Finset.subset_univ (Finset.univ.map ⟨csem, csem_injective⟩))).trans ?_
  rw [bigSep_map]
  refine Entails.of_eq (bigSep_congr fun i _ => ?_)
  exact congrArg _ (launch_at c i)

/-! ## The launch's conditions -/

/-- A device starts with its part of the exchange and the array that is not staged. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ (((c : Thread nD τ).loc main_arg1) ↦{fullShare} m ((c : Thread nD τ).loc main_arg1))) := by
  rw [Pipeline.unscopedRestP_none, unscopedRest0_eq]
  iintro ⟨Ha, Hlev, Hcr, -, HG⟩
  ihave Hc := (credits_intro (F := F) c) $$ Hcr
  imodintro
  unfold start G' records known
  icases HG with ⟨%K, ⟨HI, HR⟩, HL⟩
  isplitr [Ha]
  · isplitl [HI HR Hlev]
    · iexists K
      isplitl [HI]; · iexact HI
      isplitl [HR]; · iexact HR
      iexact Hlev
    isplitl [HL]; · iexact HL
    iexact Hc
  · iexact Ha

/-- With the scratch buffers, that is what the body is entered with. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, H⟩
  isplitl [Hs]; · iexact Hs
  iexact H

/-- What the body leaves gives back the semaphores and the scratch buffers. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁
  rw [sems_eq]
  iintro ⟨Hp, Hg, Hv, HB, HO⟩
  isplitl [HB]; · iexact HB
  isplitl [HO]; · iexact HO
  isplitl [Hp]; · iexact Hp
  isplitl [Hg] <;> iassumption

/-- Every wait of the staging copies is allowed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What the call leaves in the array of window `w` on device `c`. -/
def finalA (c : Dev nD) (w : Fin cfg0.W) : Buf (Elt F) ((cfg0.win w).arr.view.loc (c : Thread nD τ)) := (dats m ρ 0 c).arrAt w cfg0.N

set_option maxRecDepth 8000 in
/-- For any float values, from any memory with all counters zero: every fair execution of the eight devices ends, and
    then every window's array holds what the call leaves there, the argument no window stages is as it was, and every
    semaphore's counter is zero. -/
theorem run_main : θ_run defs (onTc (τ := τ) (main (F := F))) (s₀ m ρ) (fun r =>
    (∀ c : Dev nD, (∀ w : Fin cfg0.W, r.2.mem ((cfg0.win w).arr.view.loc (c : Thread nD τ)) = finalA m ρ c w)
      ∧ r.2.mem ((c : Thread nD τ).loc main_arg1) = m ((c : Thread nD τ).loc main_arg1)) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c)
    (Z := fun c => iprop(((c : Thread nD τ).loc main_arg1) ↦{fullShare} m ((c : Thread nD τ).loc main_arg1)))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      iintro ⟨Hu, Ha, HSI⟩
      icombine HSI Ha gives %ha
      imod (Pipeline.unscopedSems0_read (X := unscopedSems0 c) (c := c) fupd_intro s') $$ [Hu HSI] with ⟨%hz, HSI⟩
      · isplitl [Hu] <;> iassumption
      imodintro
      isplitr; · ipureintro; exact ⟨hz, Buf.eq_of_forall_mem_univ ha⟩
      iexact HSI)
    (hQ := fun _ h hs => ⟨fun c => ⟨fun w => (h c).1 w, (h c).2.2.2⟩, sem_eq_zero hs fun c => (h c).2.2.1⟩)

/-! ## The final contents -/

/-- The whole of an array read as one block is the array. -/
theorem xstg_eq (c : Dev nD) : xstg m ρ c = m ((c : Thread nD τ).loc main_arg0) :=
  Memref.read_access_unit_zero (Elt F) main_arg0 (off := fun a => win0_0.index (0 : Fin 1) a * main_arg0.ty.shape.size a)
    (funext fun a => by fin_cases a <;> decide) (fun a => by fin_cases a <;> decide) _
/-- The staged route is the route, -/
theorem istg_eq (c : Dev nD) : istg m ρ c = m ((c : Thread nD τ).loc main_arg2) :=
  Memref.read_access_unit_zero (Elt F) main_arg2 (off := fun a => win0_1.index (0 : Fin 1) a * main_arg2.ty.shape.size a)
    (funext fun a => by fin_cases a <;> decide) (fun a => by fin_cases a <;> decide) _
/-- and the staged weights are the weights. -/
theorem wstg_eq (c : Dev nD) : wstg m ρ c = m ((c : Thread nD τ).loc main_arg3) :=
  Memref.read_access_unit_zero (Elt F) main_arg3 (off := fun a => win0_2.index (0 : Fin 1) a * main_arg3.ty.shape.size a)
    (funext fun a => by fin_cases a <;> decide) (fun a => by fin_cases a <;> decide) _

/-- The result array ends as the body left the result's block. -/
theorem finalA_out (c : Dev nD) : finalA m ρ c (3 : Fin 4) = outAt m ρ c := by
  have h : (win0_3.blk (0 : Fin 1)).view.read (Elt F) (finalA m ρ c (3 : Fin 4)) = outAt m ρ c := by
    unfold finalA
    rw [show cfg0.N = ((0 : Fin 1) : Fin cfg0.N).val + 1 from rfl, (dats m ρ 0 c).arrAt_succ (3 : Fin 4) (0 : Fin 1)]
    rw [show (cfg0.win (3 : Fin 4)).flush (0 : Fin 1) = true from flush0_3 _, if_pos rfl]
    exact View.read_write_univ _ _
  exact (Memref.read_access_unit_zero (Elt F) main_v1 (off := fun a => win0_3.index (0 : Fin 1) a * main_v1.ty.shape.size a)
    (funext fun a => by fin_cases a <;> decide) (fun a => by fin_cases a <;> decide) _).symm.trans h

/-- The run, in closed form: the arguments unchanged, the result computed, the semaphores at zero. -/
theorem run_values : θ_run defs (onTc (τ := τ) (main (F := F))) (s₀ m ρ) (fun r =>
    (∀ c : Dev nD, r.2.mem ((c : Thread nD τ).loc main_v1) = outAt m ρ c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun _ h => ⟨fun c => ⟨((h.1 c).1 (3 : Fin 4)).trans (finalA_out m ρ c),
    ((h.1 c).1 (0 : Fin 4)).trans ((dats (F := F) m ρ 0 c).arrAt_in (0 : Fin 4) rfl _), (h.1 c).2,
    ((h.1 c).1 (1 : Fin 4)).trans ((dats (F := F) m ρ 0 c).arrAt_in (1 : Fin 4) rfl _),
    ((h.1 c).1 (2 : Fin 4)).trans ((dats (F := F) m ρ 0 c).arrAt_in (2 : Fin 4) rfl _)⟩, h.2⟩) (run_main m ρ)

end Cert.Exchange

end
-- ==== Proof.Frames.lean ====
/-
# The frames

Each program runs to its end, faults nowhere, leaves its arguments unchanged and every semaphore at zero. The kernel and
its reading over the ideal values have the same text, so one run, stated for any float values, serves both.
-/
module

public import proofs.«01_k».proof.Defs
public import proofs.«01_k».proof.Proof.Gen.Kernel
public import proofs.«01_k».proof.Proof.Gen.ReferenceIdeal.Run
public import proofs.«01_k».proof.Proof.Run
public import Idealize.ShloMosaic.Lib.StableHlo.Run

@[expose] public section

noncomputable section

namespace Cert.Frames

open Idealize.ShloMosaic Idealize.ShloMosaic.TcCoe Idealize.SL.Sem

/-- The kernel over the ideal values: it runs, its arguments end unchanged, every semaphore ends at zero. -/
theorem kernelIdeal : Cert.quiescent_KernelIdeal := fun m ρ _ =>
  (θ_run Cert.KernelIdeal.defs _ _).mono (fun _ h => ⟨fun c => (h.1 c).2, h.2⟩) (Cert.Exchange.run_values (F := Ideal) m ρ)

/-- The two readings of the kernel's body are one text, -/
theorem bodies_eq : Cert.Kernel.defs₀ (F := Bits) = Cert.KernelIdeal.defs₀ (F := Bits) := by
  unfold Cert.Kernel.defs₀ Cert.KernelIdeal.defs₀
  congr 1
  funext l x
  match l, x with
  | 0, (t, s) => rfl
  | ⟨_ + 1, h⟩, _ => exact absurd h (Nat.not_lt.2 (Nat.le_add_left _ _))

/-- and so are the two tables around it. -/
theorem tables_eq : Cert.Kernel.defs (F := Bits) = Cert.KernelIdeal.defs (F := Bits) := by
  unfold Cert.Kernel.defs Cert.KernelIdeal.defs
  rw [bodies_eq]
  rfl

/-- The kernel over the machine's float words: it runs, its arguments end unchanged, every semaphore ends at zero. -/
theorem kernel : Cert.quiescent_Kernel := fun m ρ _ => by
  rw [tables_eq]
  exact (θ_run Cert.KernelIdeal.defs _ _).mono (fun _ h => ⟨fun c => (h.1 c).2, h.2⟩)
    (Cert.Exchange.run_values (F := Bits) m ρ)

/-- The reference runs, its arguments end unchanged, and it has no semaphore to move. -/
theorem referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

end Cert.Frames

end
-- ==== Proof.Reference.lean ====
/-
# The reference at an index

Token `n` is for expert `e` when the route names `e`; it is kept when fewer than 25 earlier tokens are for `e` too. The
reference's entry `(n, f)` is the sum over the sixteen experts of the token's product with the expert's weights, counted
for the experts that keep the token.
-/
module

public import proofs.«01_k».proof.Proof.Gen.ReferenceIdeal.Run
public import Idealize.ShloMosaic.Lib.Pointwise
public import Idealize.ShloMosaic.Lib.ValueIdx
public import Idealize.ShloMosaic.Lib.IndicatorCount
public import Idealize.ShloMosaic.Lib.Routing.OpsOne

@[expose] public section

set_option maxRecDepth 16384

noncomputable section

namespace Cert.Experts

open Idealize.ShloMosaic Idealize.SL.Sem Cert.ReferenceIdeal Cert.ReferenceIdeal.Gen

/-- The tokens before `n` that are for expert `e`. -/
def earlier (r : IVec S512x1 32) (n : Fin 512) (e : ℕ) : Finset (Fin 512) :=
  Finset.univ.filter fun j => j < n ∧ r (ix2 j 0) = BitVec.ofNat 32 e

/-- Token `n` is for expert `e`, and the expert still has room for it. -/
def Kept (r : IVec S512x1 32) (n : Fin 512) (e : ℕ) : Prop :=
  r (ix2 n 0) = BitVec.ofNat 32 e ∧ (earlier r n e).card < 25

/-- Whether a token is kept can be decided. -/
instance (r : IVec S512x1 32) (n : Fin 512) (e : ℕ) : Decidable (Kept r n e) := inferInstanceAs (Decidable (_ ∧ _))

/-- The product of token `n` with expert `e`'s weights, at column `f`. -/
def product (x : FVec Ideal S512x256 .f32) (w : FVec Ideal S16x256x512 .f32) (n : Fin 512) (e : Fin 16) (f : Fin 512) : EReal :=
  ∑ k : Fin 256, x (ix2 n k) * w (ix3 e k f)

/-- Which entries of the routing table are ones. -/
def chosen (r : IVec S512x1 32) : IVec S512x16 32 :=
  extui 32 (cmpi .eq (broadcastInDim S512x16 ![0, 1] bcast_S512x1_S512x16_0_1 r)
    (broadcastInDim S512x16 ![0, 1] bcast_S1x16_S512x16_0_1 (broadcastInDim S1x16 ![1] bcast_S16_S1x16_1 (iotaInDim S16 32 0)))) natLt_1_32

/-- The ones among a column's entries up to a row, counted. -/
def running (r : IVec S512x1 32) : IVec S512x16 32 :=
  Host.reduceWindow IntOp.addi ![512, 1] ![1, 1] ![511, 0] ![0, 0] (chosen r) (broadcastInDim S_ ![] bcast_S_S_ (constantI S_ 32 0#32))
    reduceWindows_S512x16_S512x16_w512s1p511_0_w1s1p0_0 h_S_

set_option backward.isDefEq.respectTransparency false in
/-- An entry of the table is one exactly when the route names its expert. -/
theorem chosen_at (r : IVec S512x1 32) (n : Fin 512) (e : Fin 16) :
    chosen r (ix2 n e) = if r (ix2 n 0) = BitVec.ofNat 32 e.val then 1#32 else 0#32 := by
  pointwise [chosen]
  by_cases h : r (ix2 n 0) = BitVec.ofNat 32 e.val
  · rw [if_pos h, h]; simp [IntOp.cmpi]
  · rw [if_neg h]; simp only [IntOp.cmpi, beq_eq_false_iff_ne.2 h]; rfl

/-- The running count is the wrapping sum of the entries up to the row. -/
theorem running_at (r : IVec S512x1 32) (n : Fin 512) (e : Fin 16) :
    running r (ix2 n e) = ∑ j : Fin 512, if j ≤ n then chosen r (ix2 j e) else 0 := by
  have h := Routing.cumsum_rows_sum (A := 512) (Am1 := 511) (N := 16) rfl (chosen r) (broadcastInDim S_ ![] bcast_S_S_ (constantI S_ 32 0#32))
    rfl reduceWindows_S512x16_S512x16_w512s1p511_0_w1s1p0_0 h_S_ n e
  simp only [← ix2_eq_valueIdx] at h
  exact h

/-- The ones up to the row are the earlier tokens of the expert and, if it is for the expert, the row's own token. -/
theorem running_count (r : IVec S512x1 32) (n : Fin 512) (e : Fin 16) :
    running r (ix2 n e) = BitVec.ofNat 32 (earlier r n e.val).card + chosen r (ix2 n e) := by
  rw [running_at]
  have split : ∀ j : Fin 512, (if j ≤ n then chosen r (ix2 j e) else 0)
      = (if j < n ∧ r (ix2 j 0) = BitVec.ofNat 32 e.val then (1 : BitVec 32) else 0) + (if j = n then chosen r (ix2 n e) else 0) := by
    intro j
    rcases lt_trichotomy j n with h | h | h
    · rw [if_pos h.le, if_neg h.ne, chosen_at, add_zero]
      by_cases hr : r (ix2 j 0) = BitVec.ofNat 32 e.val
      · rw [if_pos hr, if_pos ⟨h, hr⟩]; rfl
      · rw [if_neg hr, if_neg (fun q => hr q.2)]; rfl
    · subst h
      rw [if_pos le_rfl, if_pos rfl, if_neg (fun q => lt_irrefl _ q.1), zero_add]
    · rw [if_neg (not_le.2 h), if_neg h.ne', if_neg (fun q => lt_asymm h q.1), zero_add]
  rw [Finset.sum_congr rfl fun j _ => split j, Finset.sum_add_distrib, Finset.sum_ite_eq' Finset.univ n, if_pos (Finset.mem_univ _),
    Finset.sum_boole]
  rfl

/-- A count of tokens is below 25 as a signed word exactly when it is below 25. -/
theorem slt_25 (k : ℕ) (hk : k ≤ 512) : (BitVec.ofNat 32 k).slt 25#32 = decide (k < 25) := by
  have h : (BitVec.ofNat 32 k).toInt = (k : ℤ) := by
    rw [BitVec.toInt_eq_toNat_of_lt (by rw [BitVec.toNat_ofNat]; omega), BitVec.toNat_ofNat, Nat.mod_eq_of_lt (by omega)]
  have h' : (25#32).toInt = (25 : ℤ) := rfl
  rw [BitVec.slt, h, h']
  exact decide_eq_decide.2 (by omega)

/-- The reference's mask says whether the token is kept. -/
theorem mask_at (r : IVec S512x1 32) (n : Fin 512) (e : Fin 16) :
    IntOp.andi (IntOp.cmpi CmpIPredicate.sgt (chosen r (ix2 n e)) 0#32)
      (IntOp.cmpi CmpIPredicate.slt (IntOp.subi (running r (ix2 n e)) (chosen r (ix2 n e))) 25#32)
    = if Kept r n e.val then 1#1 else 0#1 := by
  have hk : (earlier r n e.val).card ≤ 512 := (Finset.card_le_univ _).trans (by rw [Fintype.card_fin])
  have hs : IntOp.subi (running r (ix2 n e)) (chosen r (ix2 n e)) = BitVec.ofNat 32 (earlier r n e.val).card := by
    rw [running_count]
    exact add_sub_cancel_right _ _
  rw [hs, chosen_at]
  by_cases hr : r (ix2 n 0) = BitVec.ofNat 32 e.val
  · rw [if_pos hr]
    by_cases hc : (earlier r n e.val).card < 25
    · rw [if_pos (show Kept r n e.val from ⟨hr, hc⟩)]
      simp [IntOp.cmpi, IntOp.andi, slt_25 _ hk, hc]
    · rw [if_neg (fun q : Kept r n e.val => hc q.2)]
      simp [IntOp.cmpi, IntOp.andi, slt_25 _ hk, hc]
  · rw [if_neg hr, if_neg (fun q : Kept r n e.val => hr q.1)]
    simp [IntOp.cmpi, IntOp.andi]

/-- The reference's result as it is composed of its operations. -/
def result (x : FVec Ideal S512x256 .f32) (r : IVec S512x1 32) (w : FVec Ideal S16x256x512 .f32) : FVec Ideal S512x512 .f32 :=
  Host.reduceAdd (select (broadcastInDim S512x16x512 ![0, 1, 2] bcast_S512x16x1_S512x16x512_0_1_2
      (broadcastInDim S512x16x1 ![0, 1] bcast_S512x16_S512x16x1_0_1
        (andi (cmpi .sgt (chosen r) (broadcastInDim S512x16 ![] bcast_S_S512x16 (constantI S_ 32 0#32)))
          (cmpi .slt (subi (running r) (chosen r)) (broadcastInDim S512x16 ![] bcast_S_S512x16 (constantI S_ 32 25#32))))))
      (Host.dotGeneral dot_S512x256_S16x256x512_S512x16x512_1_1_0_02_n_n none x w)
      (broadcastInDim S512x16x512 ![] bcast_S_S512x16x512 (id (constant S_ .f32 0x00000000#32))))
    (constant S_ .f32 0x00000000#32) reducesTo_S512x16x512_S512x512_d1 h_S_

set_option backward.isDefEq.respectTransparency false in
/-- An entry of the reference's result: the token's products with the experts that keep it, summed. -/
theorem result_at (x : FVec Ideal S512x256 .f32) (r : IVec S512x1 32) (w : FVec Ideal S16x256x512 .f32) (n f : Fin 512) :
    result x r w (ix2 n f) = ∑ e : Fin 16, if Kept r n e.val then product x w n e f else 0 := by
  pointwise [result]
  refine Finset.sum_congr rfl fun e _ => ?_
  rw [mask_at]
  have h0 : (id (constant (F := Ideal) S_ .f32 0#32) ix0 : EReal) = 0 := Ideal.ofBits_zero_f32
  by_cases h : Kept r n e.val
  · rw [if_pos h, if_pos h]; rfl
  · rw [if_neg h, if_neg h]; exact h0

/-- The reference's run ends with its result array at `result` of its arguments. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16) = result (m ((c.tc : Thread nD τ).loc main_arg0)) (m ((c.tc : Thread nD τ).loc main_arg2))
          (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.ReferenceIdeal.Value.run (F := Ideal) m ρ

end Cert.Experts

end
-- ==== Proof.Gates.lean ====
/-
# The kernel's gates

Device `c` holds the experts `2c` and `2c + 1`. Its gate table has a column for each: a one where the token is kept by the
expert, a zero elsewhere. The kernel counts the earlier tokens of an expert by a product with the strictly lower
triangular matrix of ones; the count is a sum of zeros and ones.
-/
module

public import proofs.«01_k».proof.Proof.Protocol
public import proofs.«01_k».proof.Proof.Reference

@[expose] public section

set_option maxRecDepth 16384

noncomputable section

namespace Cert.Experts

open Idealize.ShloMosaic Cert.KernelIdeal Cert.KernelIdeal.Gen Cert.Exchange

/-- A one-bit word widened and read as a float is one or zero. -/
theorem indicator (p : Prop) [Decidable p] (b : BitVec 1) (hb : b = if p then 1#1 else 0#1) :
    (FloatOps.sitofp (F := Ideal) FTy.f32 (BitVec.setWidth 32 b) : EReal) = if p then 1 else 0 := by
  subst hb
  show (((BitVec.setWidth 32 (if p then 1#1 else 0#1)).toInt : ℝ) : EReal) = _
  by_cases h : p
  · rw [if_pos h, if_pos h, show (BitVec.setWidth 32 1#1).toInt = 1 by decide]
    norm_num
  · rw [if_neg h, if_neg h, show (BitVec.setWidth 32 0#1).toInt = 0 by decide]
    norm_num

/-- The number of device `c`'s expert `s`, as the kernel computes it. -/
theorem expert_word (c : Dev nD) (s : Fin 2) :
    IntOp.addi (Scalar.muli 2#32 (devw c)) (BitVec.ofNat 32 s.val) = BitVec.ofNat 32 (2 * c.val + s.val) := by
  revert c s; decide

/-- The order of two rows as signed words is their order. -/
theorem slt_rows (j n : Fin 512) : (BitVec.ofNat 32 j.val).slt (BitVec.ofNat 32 n.val) = decide (j < n) := by
  have h : ∀ i : Fin 512, (BitVec.ofNat 32 i.val).toInt = (i.val : ℤ) := fun i => by
    have := i.isLt
    rw [BitVec.toInt_eq_toNat_of_lt (by rw [BitVec.toNat_ofNat]; omega), BitVec.toNat_ofNat, Nat.mod_eq_of_lt (by omega)]
  rw [BitVec.slt, h, h]
  exact decide_eq_decide.2 (by rw [Fin.lt_def]; omega)

/-- The kernel's bound is the extended real 25. -/
theorem bound_25 : Ideal.ofBits FTy.f32 1103626240#32 = (25 : EReal) := by
  simp [Ideal.ofBits, Ideal.ieee]
  rw [← EReal.coe_mul, show (13107200 : ℝ) * (2 ^ 19)⁻¹ = 25 by norm_num]
  rfl

/-- The product with the triangular matrix counts the earlier tokens. -/
theorem count_sum (r : IVec S512x1 32) (n : Fin 512) (e : ℕ) :
    (∑ j : Fin 512, (FloatOps.sitofp (F := Ideal) FTy.f32 (BitVec.setWidth 32 (IntOp.cmpi CmpIPredicate.slt (BitVec.ofNat 32 j.val) (BitVec.ofNat 32 n.val))) : EReal)
      * FloatOps.sitofp (F := Ideal) FTy.f32 (BitVec.setWidth 32 (IntOp.cmpi CmpIPredicate.eq (r (ix2 j 0)) (BitVec.ofNat 32 e))))
    = ((earlier r n e).card : EReal) := by
  have h : ∀ j : Fin 512, (FloatOps.sitofp (F := Ideal) FTy.f32 (BitVec.setWidth 32 (IntOp.cmpi CmpIPredicate.slt (BitVec.ofNat 32 j.val) (BitVec.ofNat 32 n.val))) : EReal)
      * FloatOps.sitofp (F := Ideal) FTy.f32 (BitVec.setWidth 32 (IntOp.cmpi CmpIPredicate.eq (r (ix2 j 0)) (BitVec.ofNat 32 e)))
      = if j < n ∧ r (ix2 j 0) = BitVec.ofNat 32 e then 1 else 0 := fun j => by
    rw [indicator (j < n) _ (by
        simp only [IntOp.cmpi, slt_rows]; by_cases q : j < n <;> simp [q]),
      indicator (r (ix2 j 0) = BitVec.ofNat 32 e) _ (by
        by_cases q : r (ix2 j 0) = BitVec.ofNat 32 e
        · simp [IntOp.cmpi, q]
        · rw [if_neg q]; simp only [IntOp.cmpi, beq_eq_false_iff_ne.2 q]; rfl)]
    by_cases q : j < n <;> by_cases q' : r (ix2 j 0) = BitVec.ofNat 32 e <;> simp [q, q']
  rw [Finset.sum_congr rfl fun j _ => h j, Finset.sum_boole]
  rfl

set_option backward.isDefEq.respectTransparency false in
/-- A gate is one where the token is kept by the expert and zero elsewhere. -/
theorem gate_at (r : IVec S512x1 32) (c : Dev nD) (n : Fin 512) (s : Fin 2) :
    (k0_pay1 (F := Ideal) (devw c) r (ix2 n s) : EReal) = if Kept r n (2 * c.val + s.val) then 1 else 0 := by
  pointwise [k0_pay1]
  rw [expert_word, count_sum, bound_25]
  have hlt : ((earlier r n (2 * c.val + s.val)).card : EReal) < 25 ↔ (earlier r n (2 * c.val + s.val)).card < 25 := by
    exact_mod_cast Iff.rfl
  by_cases hr : r (ix2 n 0) = BitVec.ofNat 32 (2 * c.val + s.val)
  · by_cases hc : (earlier r n (2 * c.val + s.val)).card < 25
    · rw [if_pos (show Kept r n (2 * c.val + s.val) from ⟨hr, hc⟩)]
      simp [IntOp.cmpi, IntOp.andi, hr, hlt, hc, Scalar.select]
    · rw [if_neg (fun q : Kept r n (2 * c.val + s.val) => hc q.2)]
      simp [IntOp.cmpi, IntOp.andi, hr, hlt, hc, Scalar.select]
  · rw [if_neg (fun q : Kept r n (2 * c.val + s.val) => hr q.1)]
    simp only [IntOp.cmpi, beq_eq_false_iff_ne.2 hr]
    simp [IntOp.andi, Scalar.select]

end Cert.Experts

end
-- ==== Proof.Value.lean ====
/-
# The kernel's result is the reference's

A device's contribution to a row is the sum over its two experts of the row's product with the expert's weights, counted
when the expert keeps the token. The result of a row is the sum of the eight devices' contributions, that is of the
sixteen experts'.
-/
module

public import proofs.«01_k».proof.Defs
public import proofs.«01_k».proof.Proof.Run
public import proofs.«01_k».proof.Proof.Gates
public import Idealize.ShloMosaic.Lib.LayoutAt

@[expose] public section

set_option maxRecDepth 16384

noncomputable section

namespace Cert.Experts

open Idealize.ShloMosaic Idealize.ShloMosaic.TcCoe Idealize.SL.Sem Cert.KernelIdeal Cert.KernelIdeal.Gen Cert.Exchange

variable (m : (ℓ : Loc nD τ sig) → Buf (Elt Ideal) ℓ) (ρ : Dev nD → PrngReg)

/-- Row `r` of device `t`'s block. -/
def row (t : Dev nD) (r : Fin 64) : Fin 512 := ⟨64 * t.val + r.val, by have h : t.val < 8 := t.isLt; have := r.isLt; omega⟩

/-- Expert `s` of device `c`. -/
def expert (c : Dev nD) (s : Fin 2) : Fin 16 := ⟨2 * c.val + s.val, by have h : c.val < 8 := c.isLt; have := s.isLt; omega⟩

/-! ## The loads -/

/-- The rows of device `t` are read at their place; -/
theorem xrows_at (c t : Dev nD) (r : Fin 64) (k : Fin 256) : xrows m ρ c t (ix2 r k) = xstg m ρ c (ix2 (row t r) k) := by
  unfold xrows
  refine congrArg (xstg m ρ c) ?_
  funext a; apply Fin.ext
  match a with
  | ⟨0, _⟩ => show 64 * t.val + 1 * r.val = 64 * t.val + r.val; omega
  | ⟨1, _⟩ => show 0 + 1 * k.val = k.val; omega

/-- so are the gates'; -/
theorem grows_at (c t : Dev nD) (r : Fin 64) (s : Fin 2) : grows m ρ c t (ix2 r s) = gates m ρ c (ix2 (row t r) s) := by
  unfold grows
  refine congrArg (gates m ρ c) ?_
  funext a; apply Fin.ext
  match a with
  | ⟨0, _⟩ => show 64 * t.val + 1 * r.val = 64 * t.val + r.val; omega
  | ⟨1, _⟩ => show 0 + 1 * s.val = s.val; omega

/-- the first expert's weights are the first of the two planes, -/
theorem w0_at (c : Dev nD) (k : Fin 256) (f : Fin 512) : w0 m ρ c (ix3 0 k f) = wstg m ρ c (ix3 0 k f) := by
  unfold w0
  refine congrArg (wstg m ρ c) ?_
  funext a; apply Fin.ext
  match a with
  | ⟨0, _⟩ => rfl
  | ⟨1, _⟩ => show 0 + 1 * k.val = k.val; omega
  | ⟨2, _⟩ => show 0 + 1 * f.val = f.val; omega

/-- and the second's the second. -/
theorem w1_at (c : Dev nD) (k : Fin 256) (f : Fin 512) : w1 m ρ c (ix3 0 k f) = wstg m ρ c (ix3 1 k f) := by
  unfold w1
  refine congrArg (wstg m ρ c) ?_
  funext a; apply Fin.ext
  match a with
  | ⟨0, _⟩ => rfl
  | ⟨1, _⟩ => show 0 + 1 * k.val = k.val; omega
  | ⟨2, _⟩ => show 0 + 1 * f.val = f.val; omega

/-! ## A contribution -/

variable {m ρ}

/-- The memory holds the reference's arguments: the activations and the route whole on every device, the weights two experts a device. -/
structure Holds (m : (ℓ : Loc nD τ sig) → Buf (Elt Ideal) ℓ) (X : FVec Ideal S512x256 .f32) (R : IVec S512x1 32)
    (W : FVec Ideal Cert.ReferenceIdeal.S16x256x512 .f32) : Prop where
  x : ∀ c : Dev nD, m ((c : Thread nD τ).loc main_arg0) = X
  r : ∀ c : Dev nD, m ((c : Thread nD τ).loc main_arg2) = R
  w : ∀ c : Dev nD, m ((c : Thread nD τ).loc main_arg3) = Layout.block ⟨3, ![2, 256, 512]⟩ ⟨3, ![16, 256, 512]⟩ 0 8 c W

variable {X : FVec Ideal S512x256 .f32} {R : IVec S512x1 32} {W : FVec Ideal Cert.ReferenceIdeal.S16x256x512 .f32}

/-- What device `c`'s experts give token `n`, at column `f`. -/
def given (X : FVec Ideal S512x256 .f32) (R : IVec S512x1 32) (W : FVec Ideal Cert.ReferenceIdeal.S16x256x512 .f32)
    (c : Dev nD) (n f : Fin 512) : EReal :=
  ∑ s : Fin 2, if Kept R n (expert c s).val then product X W n (expert c s) f else 0

/-- The plane `s` of a device's weights is the whole array's plane of its expert. -/
theorem wstg_at (h : Holds m X R W) (c : Dev nD) (s : Fin 2) (k : Fin 256) (f : Fin 512) :
    wstg m ρ c (ix3 s k f) = W (ix3 (expert c s) k f) := by
  rw [wstg_eq, h.w c, Layout.block_apply]
  refine congrArg W ?_
  funext a; apply Fin.ext
  match a with
  | ⟨0, _⟩ => show c.val * 2 + s.val = 2 * c.val + s.val; omega
  | ⟨1, _⟩ => rfl
  | ⟨2, _⟩ => rfl

/-- A gated product: the gate picks the whole product or nothing. -/
theorem gated (P : Prop) [Decidable P] (g : EReal) (hg : g = if P then 1 else 0) (a b : Fin 256 → EReal) :
    ∑ k, a k * g * b k = if P then ∑ k, a k * b k else 0 := by
  subst hg
  by_cases h : P
  · rw [if_pos h, if_pos h]
    exact Finset.sum_congr rfl fun k _ => by rw [mul_one]
  · rw [if_neg h, if_neg h]
    exact Finset.sum_eq_zero fun k _ => by rw [mul_zero, zero_mul]

/-- The two gated products with a device's two experts are what the device gives. -/
theorem two_products (h : Holds m X R W) (c t : Dev nD) (r : Fin 64) (f : Fin 512) :
    ((∑ k : Fin 256, xrows m ρ c t (ix2 r k) * grows m ρ c t (ix2 r 0) * w0 m ρ c (ix3 0 k f) : EReal)
      + ∑ k : Fin 256, xrows m ρ c t (ix2 r k) * grows m ρ c t (ix2 r 1) * w1 m ρ c (ix3 0 k f)) = given X R W c (row t r) f := by
  have hg : ∀ s : Fin 2, (grows m ρ c t (ix2 r s) : EReal) = if Kept R (row t r) (expert c s).val then 1 else 0 := fun s => by
    rw [grows_at]
    unfold gates
    rw [istg_eq, h.r c]
    exact gate_at R c (row t r) s
  have e0 := gated _ _ (hg 0) (fun k => xrows m ρ c t (ix2 r k)) (fun k => w0 m ρ c (ix3 0 k f))
  have e1 := gated _ _ (hg 1) (fun k => xrows m ρ c t (ix2 r k)) (fun k => w1 m ρ c (ix3 0 k f))
  have p0 : (∑ k : Fin 256, xrows m ρ c t (ix2 r k) * w0 m ρ c (ix3 0 k f) : EReal) = product X W (row t r) (expert c 0) f :=
    Finset.sum_congr rfl fun k _ => by rw [xrows_at, w0_at, xstg_eq, h.x c, wstg_at h]
  have p1 : (∑ k : Fin 256, xrows m ρ c t (ix2 r k) * w1 m ρ c (ix3 0 k f) : EReal) = product X W (row t r) (expert c 1) f :=
    Finset.sum_congr rfl fun k _ => by rw [xrows_at, w1_at, xstg_eq, h.x c, wstg_at h]
  unfold given
  rw [Fin.sum_univ_two, ← p0, ← p1]
  exact congrArg₂ (· + ·) e0 e1

set_option backward.isDefEq.respectTransparency false in
/-- The contribution sent to device `t` is what the device gives its rows; -/
theorem contrib_at (h : Holds m X R W) (c t : Dev nD) (r : Fin 64) (f : Fin 512) :
    (contrib m ρ c t (ix2 r f) : EReal) = given X R W c (row t r) f := by
  refine Eq.trans ?_ (two_products (ρ := ρ) h c t r f)
  pointwise [contrib, k0_pay4, k0_pay2, k0_pay3]

set_option backward.isDefEq.respectTransparency false in
/-- and so is the contribution a device keeps. -/
theorem own_at (h : Holds m X R W) (c : Dev nD) (r : Fin 64) (f : Fin 512) :
    (own m ρ c (ix2 r f) : EReal) = given X R W c (row c r) f := by
  refine Eq.trans ?_ (two_products (ρ := ρ) h c c r f)
  pointwise [own, k0_pay17, k0_pay2, k0_pay3]

/-- A landing slot read as rows is the contribution that landed. -/
theorem landed_rows (c : Dev nD) (k : Fin 7) (hc : S1x64x512.ShapeCasts S64x512) :
    shapeCast S64x512 (landed m ρ c k) hc = contrib m ρ (back c k) c := by
  funext i
  exact congrArg (contrib m ρ (back c k) c) (Equiv.symm_apply_apply _ i)

/-! ## The sum over the devices, and over the experts -/

/-- A device and the seven before it on the ring are the eight devices. -/
theorem sum_ring (T : Dev nD → EReal) (c : Dev nD) :
    T c + T (back c 0) + T (back c 1) + T (back c 2) + T (back c 3) + T (back c 4) + T (back c 5) + T (back c 6) = ∑ d : Dev nD, T d := by
  have hu : (Finset.univ : Finset (Dev nD)) = insert c (Finset.univ.image (back c)) := by revert c; decide
  have hn : c ∉ Finset.univ.image (back c) := by revert c; decide
  have hi : Function.Injective (back c) := by revert c; decide
  rw [hu, Finset.sum_insert hn, Finset.sum_image fun _ _ _ _ q => hi q, Fin.sum_univ_seven]
  simp only [add_assoc]

/-- The devices' experts are the sixteen experts. -/
theorem sum_experts (E : Fin 16 → EReal) : (∑ c : Dev nD, ∑ s : Fin 2, E (expert c s)) = ∑ e : Fin 16, E e := by
  rw [← Fintype.sum_prod_type' (fun (c : Dev nD) (s : Fin 2) => E (expert c s))]
  refine Fintype.sum_equiv (finProdFinEquiv (m := 8) (n := 2)) _ _ fun p => congrArg E (Fin.ext ?_)
  show 2 * p.1.val + p.2.val = p.2.val + 2 * p.1.val
  omega

/-- The kernel's result adds the seven landing slots to the device's own contribution. -/
theorem added (a : FVec Ideal S64x512 .f32) (l : Fin 7 → Vec Ideal S1x64x512 .bf16) (i : S64x512.Idx) :
    (k0_pay20 (k0_pay19 (k0_pay18 a (l 0) (l 1)) (l 2) (l 3) (l 4)) (l 5) (l 6) i : EReal)
      = (a i : EReal) + shapeCast S64x512 (l 0) shapeCasts_S1x64x512_S64x512 i + shapeCast S64x512 (l 1) shapeCasts_S1x64x512_S64x512 i
        + shapeCast S64x512 (l 2) shapeCasts_S1x64x512_S64x512 i + shapeCast S64x512 (l 3) shapeCasts_S1x64x512_S64x512 i
        + shapeCast S64x512 (l 4) shapeCasts_S1x64x512_S64x512 i + shapeCast S64x512 (l 5) shapeCasts_S1x64x512_S64x512 i
        + shapeCast S64x512 (l 6) shapeCasts_S1x64x512_S64x512 i := rfl

/-- The result of device `c` is its block of the reference's result. -/
theorem out_at (h : Holds m X R W) (c : Dev nD) (r : Fin 64) (f : Fin 512) :
    (outAt m ρ c (ix2 r f) : EReal) = result X R W (ix2 (row c r) f) := by
  refine Eq.trans ?_ (((sum_ring (fun d => given X R W d (row c r) f) c).trans
    (sum_experts fun e => if Kept R (row c r) e.val then product X W (row c r) e f else 0)).trans (result_at X R W (row c r) f).symm)
  refine (added (own m ρ c) (landed m ρ c) (ix2 r f)).trans ?_
  have hl : ∀ k : Fin 7, (shapeCast S64x512 (landed m ρ c k) shapeCasts_S1x64x512_S64x512 (ix2 r f) : EReal)
      = given X R W (back c k) (row c r) f := fun k =>
    (congrFun (landed_rows c k _) (ix2 r f)).trans (contrib_at h (back c k) c r f)
  exact congrArg₂ (· + ·) (congrArg₂ (· + ·) (congrArg₂ (· + ·) (congrArg₂ (· + ·) (congrArg₂ (· + ·) (congrArg₂ (· + ·)
    (congrArg₂ (· + ·) (own_at h c r f) (hl 0)) (hl 1)) (hl 2)) (hl 3)) (hl 4)) (hl 5)) (hl 6)

/-- Both programs run from memories that hold the same arguments; each device's result ends as its block of the reference's
result, and the arguments of both end unchanged. -/
theorem algebraic : Cert.algebraic_KernelIdeal_ReferenceIdeal := fun m ρ m' ρ' _ hargs => by
  have h : Holds m _ _ _ := ⟨fun c => (hargs c).1, fun c => (hargs c).2.2.1, fun c => (hargs c).2.2.2⟩
  refine ⟨result _ _ _, (θ_run Cert.KernelIdeal.defs _ _).mono (fun r hr c => ⟨?_, (hr.1 c).2⟩) (run_values (F := Ideal) m ρ),
    (θ_run Cert.ReferenceIdeal.defs _ _).mono (fun r hr => hr 0) (reference_run m' ρ')⟩
  refine (hr.1 c).1.trans ?_
  funext j
  rw [Layout.block_apply]
  have hj : j = ix2 (j 0) (j 1) := by
    funext a
    match a with
    | ⟨0, _⟩ => rfl
    | ⟨1, _⟩ => rfl
  rw [hj]
  refine (out_at (ρ := ρ) h c (j 0) (j 1)).trans (congrArg (result _ _ _) ?_)
  funext a; apply Fin.ext
  match a with
  | ⟨0, _⟩ => show 64 * c.val + (j 0).val = c.val * 64 + (j 0).val; omega
  | ⟨1, _⟩ => rfl

end Cert.Experts

end
-- ==== Proof.lean ====
/-
# The certificate

The claims of `Defs.lean`, each from the module that proves it.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Value

@[expose] public section

noncomputable section

namespace Cert.Proof

/-- Every claim of the certificate. -/
theorem claim : Cert.Claim := ⟨Cert.Kernel.Gen.facts, Cert.KernelIdeal.Gen.facts, Cert.ReferenceIdeal.Gen.facts,
  Cert.Frames.kernel, Cert.Frames.kernelIdeal, Cert.Frames.referenceIdeal, trivial,
  Cert.Experts.algebraic⟩

end Cert.Proof

end
